-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x96x224x224 : Shape := ⟨4, ![4, 96, 224, 224]⟩
abbrev S96x96x3 : Shape := ⟨3, ![96, 96, 3]⟩
abbrev S96 : Shape := ⟨1, ![96]⟩
abbrev S_ : Shape := ⟨0, ![]⟩

class Facts : Prop where
  bcast_S_S4x96x224x224 : S_.BroadcastsInDim S4x96x224x224 (![] : Fin 0 → Fin S4x96x224x224.rank)
  bcast_S_S96x96x3 : S_.BroadcastsInDim S96x96x3 (![] : Fin 0 → Fin S96x96x3.rank)

variable [Facts]

def fn {F : FTy → Type} [FloatOps F] (main_arg0 : FVec F S4x96x224x224 .f32) (main_arg1 : FVec F S96x96x3 .f32) (main_arg2 : FVec F S96 .f32) : IVec S4x96x224x224 1 × IVec S96x96x3 1 :=
  let main_v0 : FVec F S4x96x224x224 .f32 := Host.absf main_arg0
  let main_cst : FVec F S_ .f32 := constant S_ .f32 0x7F800000#32
  let main_v1 : FVec F S4x96x224x224 .f32 := broadcastInDim S4x96x224x224 ![] bcast_S_S4x96x224x224 main_cst
  let main_v2 : IVec S4x96x224x224 1 := cmpf .olt main_v0 main_v1
  let main_v3 : FVec F S96x96x3 .f32 := Host.absf main_arg1
  let main_cst_0 : FVec F S_ .f32 := constant S_ .f32 0x7F800000#32
  let main_v4 : FVec F S96x96x3 .f32 := broadcastInDim S96x96x3 ![] bcast_S_S96x96x3 main_cst_0
  let main_v5 : IVec S96x96x3 1 := cmpf .olt main_v3 main_v4
  (main_v2, main_v5)
-- ==== Kernel.lean ====
abbrev S4x96x224x224 : Shape := ⟨4, ![4, 96, 224, 224]⟩
abbrev S96x96x3 : Shape := ⟨3, ![96, 96, 3]⟩
abbrev S96 : Shape := ⟨1, ![96]⟩
abbrev S4x96x50176 : Shape := ⟨3, ![4, 96, 50176]⟩
abbrev S3x96x96 : Shape := ⟨3, ![3, 96, 96]⟩
abbrev S96x1 : Shape := ⟨2, ![96, 1]⟩
abbrev S4x64x96 : Shape := ⟨3, ![4, 64, 96]⟩
abbrev S4x96x192 : Shape := ⟨3, ![4, 96, 192]⟩
abbrev S1x96x8x224 : Shape := ⟨4, ![1, 96, 8, 224]⟩
abbrev S1x64x96 : Shape := ⟨3, ![1, 64, 96]⟩
abbrev S1x96x192 : Shape := ⟨3, ![1, 96, 192]⟩
abbrev S1x96x1x224 : Shape := ⟨4, ![1, 96, 1, 224]⟩
abbrev S96x224 : Shape := ⟨2, ![96, 224]⟩
abbrev S96x64 : Shape := ⟨2, ![96, 64]⟩
abbrev S64 : Shape := ⟨1, ![64]⟩
abbrev S1x64 : Shape := ⟨2, ![1, 64]⟩
abbrev S64x96 : Shape := ⟨2, ![64, 96]⟩
abbrev S1x96x96 : Shape := ⟨3, ![1, 96, 96]⟩
abbrev S96x96 : Shape := ⟨2, ![96, 96]⟩
abbrev S96x192 : Shape := ⟨2, ![96, 192]⟩
abbrev S1x96x6272 : Shape := ⟨3, ![1, 96, 6272]⟩
abbrev S96x6272 : Shape := ⟨2, ![96, 6272]⟩
abbrev S6272 : Shape := ⟨1, ![6272]⟩
abbrev S1x6272 : Shape := ⟨2, ![1, 6272]⟩
abbrev S64x6272 : Shape := ⟨2, ![64, 6272]⟩
abbrev S192x6272 : Shape := ⟨2, ![192, 6272]⟩

abbrev nBuf : Space → Nat
  | .hbm => 11
  | .vmem => 34
  | .smem => 0
  | _ => 0

abbrev bufTy : (tb : Table) → Fin (tcTables nBuf tb) → BufTy
  | .hbm, ⟨0, _⟩ => ⟨S4x96x224x224, .f32⟩
  | .hbm, ⟨1, _⟩ => ⟨S96x96x3, .f32⟩
  | .hbm, ⟨2, _⟩ => ⟨S96, .f32⟩
  | .hbm, ⟨3, _⟩ => ⟨S4x96x50176, .f32⟩
  | .hbm, ⟨4, _⟩ => ⟨S3x96x96, .f32⟩
  | .hbm, ⟨5, _⟩ => ⟨S96x1, .f32⟩
  | .hbm, ⟨6, _⟩ => ⟨S4x64x96, .bf16⟩
  | .hbm, ⟨7, _⟩ => ⟨S4x96x192, .bf16⟩
  | .hbm, ⟨8, _⟩ => ⟨S4x96x192, .bf16⟩
  | .hbm, ⟨9, _⟩ => ⟨S4x96x50176, .f32⟩
  | .hbm, ⟨10, _⟩ => ⟨S4x96x224x224, .f32⟩
  | .local _ .vmem, ⟨0, _⟩ => ⟨S1x96x8x224, .f32⟩
  | .local _ .vmem, ⟨1, _⟩ => ⟨S1x96x8x224, .f32⟩
  | .local _ .vmem, ⟨2, _⟩ => ⟨S1x96x8x224, .f32⟩
  | .local _ .vmem, ⟨3, _⟩ => ⟨S1x96x8x224, .f32⟩
  | .local _ .vmem, ⟨4, _⟩ => ⟨S1x96x8x224, .f32⟩
  | .local _ .vmem, ⟨5, _⟩ => ⟨S1x96x8x224, .f32⟩
  | .local _ .vmem, ⟨6, _⟩ => ⟨S1x96x8x224, .f32⟩
  | .local _ .vmem, ⟨7, _⟩ => ⟨S1x96x8x224, .f32⟩
  | .local _ .vmem, ⟨8, _⟩ => ⟨S1x96x8x224, .f32⟩
  | .local _ .vmem, ⟨9, _⟩ => ⟨S1x96x8x224, .f32⟩
  | .local _ .vmem, ⟨10, _⟩ => ⟨S1x96x8x224, .f32⟩
  | .local _ .vmem, ⟨11, _⟩ => ⟨S1x96x8x224, .f32⟩
  | .local _ .vmem, ⟨12, _⟩ => ⟨S1x96x8x224, .f32⟩
  | .local _ .vmem, ⟨13, _⟩ => ⟨S1x96x8x224, .f32⟩
  | .local _ .vmem, ⟨14, _⟩ => ⟨S1x96x8x224, .f32⟩
  | .local _ .vmem, ⟨15, _⟩ => ⟨S1x96x8x224, .f32⟩
  | .local _ .vmem, ⟨16, _⟩ => ⟨S3x96x96, .f32⟩
  | .local _ .vmem, ⟨17, _⟩ => ⟨S1x64x96, .bf16⟩
  | .local _ .vmem, ⟨18, _⟩ => ⟨S1x64x96, .bf16⟩
  | .local _ .vmem, ⟨19, _⟩ => ⟨S1x96x192, .bf16⟩
  | .local _ .vmem, ⟨20, _⟩ => ⟨S1x96x192, .bf16⟩
  | .local _ .vmem, ⟨21, _⟩ => ⟨S1x96x192, .bf16⟩
  | .local _ .vmem, ⟨22, _⟩ => ⟨S1x96x192, .bf16⟩
  | .local _ .vmem, ⟨23, _⟩ => ⟨S1x96x6272, .f32⟩
  | .local _ .vmem, ⟨24, _⟩ => ⟨S1x96x6272, .f32⟩
  | .local _ .vmem, ⟨25, _⟩ => ⟨S1x64x96, .bf16⟩
  | .local _ .vmem, ⟨26, _⟩ => ⟨S1x64x96, .bf16⟩
  | .local _ .vmem, ⟨27, _⟩ => ⟨S1x96x192, .bf16⟩
  | .local _ .vmem, ⟨28, _⟩ => ⟨S1x96x192, .bf16⟩
  | .local _ .vmem, ⟨29, _⟩ => ⟨S1x96x192, .bf16⟩
  | .local _ .vmem, ⟨30, _⟩ => ⟨S1x96x192, .bf16⟩
  | .local _ .vmem, ⟨31, _⟩ => ⟨S96x1, .f32⟩
  | .local _ .vmem, ⟨32, _⟩ => ⟨S1x96x6272, .f32⟩
  | .local _ .vmem, ⟨33, _⟩ => ⟨S1x96x6272, .f32⟩
  | _, _ => ⟨S4x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3_0 : Ref sig .tc := ⟨.hbm, 6, rfl⟩
abbrev main_call0_v3_1 : Ref sig .tc := ⟨.hbm, 7, rfl⟩
abbrev main_call0_v3_2 : Ref sig .tc := ⟨.hbm, 8, rfl⟩
abbrev main_call0_v4 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc1_stg5_0 : Ref sig .tc := ⟨.vmem, 32, rfl⟩
abbrev cc1_stg5_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31
abbrev cc1_sem5_0 : DmaSem sig := 32
abbrev cc1_sem5_1 : DmaSem sig := 33

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c4_i32 : BitVec 32 := 4#32
  let c0_i32_0 : BitVec 32 := 0#32
  let c0_i32_1 : BitVec 32 := 0#32
  ![arg0.toNat, c0_i32.toNat, c4_i32.toNat, c0_i32_0.toNat]

def cc0_transform_2 (i : grid0.Coords) : Fin 4 → Nat :=
  let arg0 : BitVec 32 := BitVec.ofNat 32 (i 0).val
  let c0_i32 : BitVec 32 := 0#32
  let c8_i32 : BitVec 32 := 8#32
  let c0_i32_0 : BitVec 32 := 0#32
  let c0_i32_1 : BitVec 32 := 0#32
  ![arg0.toNat, c0_i32.toNat, c8_i32.toNat, c0_i32_0.toNat]

def cc0_transform_3 (i : grid0.Coords) : Fin 4 → Nat :=
  let arg0 : BitVec 32 := BitVec.ofNat 32 (i 0).val
  let c0_i32 : BitVec 32 := 0#32
  let c12_i32 : BitVec 32 := 12#32
  let c0_i32_0 : BitVec 32 := 0#32
  let c0_i32_1 : BitVec 32 := 0#32
  ![arg0.toNat, c0_i32.toNat, c12_i32.toNat, c0_i32_0.toNat]

def cc0_transform_4 (i : grid0.Coords) : Fin 4 → Nat :=
  let arg0 : BitVec 32 := BitVec.ofNat 32 (i 0).val
  let c0_i32 : BitVec 32 := 0#32
  let c15_i32 : BitVec 32 := 15#32
  let c0_i32_0 : BitVec 32 := 0#32
  let c0_i32_1 : BitVec 32 := 0#32
  ![arg0.toNat, c0_i32.toNat, c15_i32.toNat, c0_i32_0.toNat]

def cc0_transform_5 (i : grid0.Coords) : Fin 4 → Nat :=
  let arg0 : BitVec 32 := BitVec.ofNat 32 (i 0).val
  let c0_i32 : BitVec 32 := 0#32
  let c19_i32 : BitVec 32 := 19#32
  let c0_i32_0 : BitVec 32 := 0#32
  let c0_i32_1 : BitVec 32 := 0#32
  ![arg0.toNat, c0_i32.toNat, c19_i32.toNat, c0_i32_0.toNat]

def cc0_transform_6 (i : grid0.Coords) : Fin 4 → Nat :=
  let arg0 : BitVec 32 := BitVec.ofNat 32 (i 0).val
  let c0_i32 : BitVec 32 := 0#32
  let c23_i32 : BitVec 32 := 23#32
  let c0_i32_0 : BitVec 32 := 0#32
  let c0_i32_1 : BitVec 32 := 0#32
  ![arg0.toNat, c0_i32.toNat, c23_i32.toNat, c0_i32_0.toNat]

def cc0_transform_7 (i : grid0.Coords) : Fin 4 → Nat :=
  let arg0 : BitVec 32 := BitVec.ofNat 32 (i 0).val
  let c0_i32 : BitVec 32 := 0#32
  let c27_i32 : BitVec 32 := 27#32
  let c0_i32_0 : BitVec 32 := 0#32
  let c0_i32_1 : BitVec 32 := 0#32
  ![arg0.toNat, c0_i32.toNat, c27_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x96x8x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x96x8x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x96x8x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x96x8x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x96x8x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x96x8x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x96x8x224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x96x8x224 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x96x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x64x96 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x96x192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x96x192 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x96x6272 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x96 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x96x192 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x96x192 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S96x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x96x6272 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S4x96x224x224 : Shape := ⟨4, ![4, 96, 224, 224]⟩
abbrev S96x96x3 : Shape := ⟨3, ![96, 96, 3]⟩
abbrev S96 : Shape := ⟨1, ![96]⟩
abbrev S_ : Shape := ⟨0, ![]⟩
abbrev S7 : Shape := ⟨1, ![7]⟩
abbrev S1 : Shape := ⟨1, ![1]⟩
abbrev S8 : Shape := ⟨1, ![8]⟩
abbrev S8x8 : Shape := ⟨2, ![8, 8]⟩
abbrev S64 : Shape := ⟨1, ![64]⟩
abbrev S8x8x1 : Shape := ⟨3, ![8, 8, 1]⟩
abbrev S8x8x2 : Shape := ⟨3, ![8, 8, 2]⟩
abbrev S4x96x8x8 : Shape := ⟨4, ![4, 96, 8, 8]⟩
abbrev S4x96x64 : Shape := ⟨3, ![4, 96, 64]⟩
abbrev S4x96x50176 : Shape := ⟨3, ![4, 96, 50176]⟩
abbrev S4x50176 : Shape := ⟨2, ![4, 50176]⟩
abbrev S4x1x50176 : Shape := ⟨3, ![4, 1, 50176]⟩
abbrev S4x64 : Shape := ⟨2, ![4, 64]⟩
abbrev S4x1x64 : Shape := ⟨3, ![4, 1, 64]⟩
abbrev S4x50176x64 : Shape := ⟨3, ![4, 50176, 64]⟩
abbrev S64x1 : Shape := ⟨2, ![64, 1]⟩
abbrev S64x2 : Shape := ⟨2, ![64, 2]⟩
abbrev S4x50176x3 : Shape := ⟨3, ![4, 50176, 3]⟩
abbrev S4x96x1x64 : Shape := ⟨4, ![4, 96, 1, 64]⟩
abbrev S4x1x50176x3 : Shape := ⟨4, ![4, 1, 50176, 3]⟩
abbrev S4x50176x3x1 : Shape := ⟨4, ![4, 50176, 3, 1]⟩
abbrev S1x1x1x1 : Shape := ⟨4, ![1, 1, 1, 1]⟩
abbrev S4x96x50176x3 : Shape := ⟨4, ![4, 96, 50176, 3]⟩
abbrev S96x4x50176 : Shape := ⟨3, ![96, 4, 50176]⟩
abbrev S1x96x1 : Shape := ⟨3, ![1, 96, 1]⟩

abbrev nBuf : Space → Nat
  | .hbm => 157
  | .vmem => 0
  | .smem => 0
  | _ => 0

abbrev hbmTy0_0 (i : Nat) : BufTy := match i % 128 with
  | 0 => ⟨S4x96x224x224, .f32⟩
  | 1 => ⟨S96x96x3, .f32⟩
  | 2 => ⟨S96, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S7, .f32⟩
  | 11 => ⟨S_, .f32⟩
  | 12 => ⟨S7, .f32⟩
  | 13 => ⟨S7, .f32⟩
  | 14 => ⟨S1, .f32⟩
  | 15 => ⟨S_, .f32⟩
  | 16 => ⟨S7, .f32⟩
  | 17 => ⟨S7, .f32⟩
  | 18 => ⟨S7, .f32⟩
  | 19 => ⟨S7, .f32⟩
  | 20 => ⟨S1, .f32⟩
  | 21 => ⟨S7, .f32⟩
  | 22 => ⟨S7, .f32⟩
  | 23 => ⟨S7, .f32⟩
  | 24 => ⟨S1, .f32⟩
  | 25 => ⟨S8, .f32⟩
  | 26 => ⟨S8, .f32⟩
  | 27 => ⟨S8, .i32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S7, .f32⟩
  | 36 => ⟨S_, .f32⟩
  | 37 => ⟨S7, .f32⟩
  | 38 => ⟨S7, .f32⟩
  | 39 => ⟨S1, .f32⟩
  | 40 => ⟨S_, .f32⟩
  | 41 => ⟨S7, .f32⟩
  | 42 => ⟨S7, .f32⟩
  | 43 => ⟨S7, .f32⟩
  | 44 => ⟨S7, .f32⟩
  | 45 => ⟨S1, .f32⟩
  | 46 => ⟨S7, .f32⟩
  | 47 => ⟨S7, .f32⟩
  | 48 => ⟨S7, .f32⟩
  | 49 => ⟨S1, .f32⟩
  | 50 => ⟨S8, .f32⟩
  | 51 => ⟨S8, .f32⟩
  | 52 => ⟨S8, .i32⟩
  | 53 => ⟨S8x8, .i32⟩
  | 54 => ⟨S8x8, .i32⟩
  | 55 => ⟨S64, .i32⟩
  | 56 => ⟨S_, .i32⟩
  | 57 => ⟨S64, .i32⟩
  | 58 => ⟨S64, .i32⟩
  | 59 => ⟨S64, .i32⟩
  | 60 => ⟨S64, .i32⟩
  | 61 => ⟨S_, .i32⟩
  | 62 => ⟨S8x8, .i32⟩
  | 63 => ⟨S8x8, .i1⟩
  | 64 => ⟨S_, .i32⟩
  | 65 => ⟨S8x8, .i32⟩
  | 66 => ⟨S8x8, .i32⟩
  | 67 => ⟨S8x8, .i32⟩
  | 68 => ⟨S_, .i32⟩
  | 69 => ⟨S8x8, .i32⟩
  | 70 => ⟨S8x8, .i1⟩
  | 71 => ⟨S_, .i32⟩
  | 72 => ⟨S8x8, .i32⟩
  | 73 => ⟨S8x8, .i32⟩
  | 74 => ⟨S8x8, .i32⟩
  | 75 => ⟨S8x8x1, .i32⟩
  | 76 => ⟨S8x8x1, .i32⟩
  | 77 => ⟨S8x8x2, .i32⟩
  | 78 => ⟨S4x96x8x8, .f32⟩
  | 79 => ⟨S4x96x64, .f32⟩
  | 80 => ⟨S4x96x50176, .f32⟩
  | 81 => ⟨S4x96x50176, .f32⟩
  | 82 => ⟨S_, .f32⟩
  | 83 => ⟨S4x50176, .f32⟩
  | 84 => ⟨S4x1x50176, .f32⟩
  | 85 => ⟨S4x1x50176, .f32⟩
  | 86 => ⟨S_, .f32⟩
  | 87 => ⟨S4x1x50176, .f32⟩
  | 88 => ⟨S4x1x50176, .f32⟩
  | 89 => ⟨S4x96x50176, .f32⟩
  | 90 => ⟨S4x96x50176, .f32⟩
  | 91 => ⟨S4x96x64, .f32⟩
  | 92 => ⟨S_, .f32⟩
  | 93 => ⟨S4x64, .f32⟩
  | 94 => ⟨S4x1x64, .f32⟩
  | 95 => ⟨S4x1x64, .f32⟩
  | 96 => ⟨S_, .f32⟩
  | 97 => ⟨S4x1x64, .f32⟩
  | 98 => ⟨S4x1x64, .f32⟩
  | 99 => ⟨S4x96x64, .f32⟩
  | 100 => ⟨S4x96x64, .f32⟩
  | 101 => ⟨S4x50176x64, .f32⟩
  | 102 => ⟨S64, .i32⟩
  | 103 => ⟨S_, .i32⟩
  | 104 => ⟨S64, .i32⟩
  | 105 => ⟨S64, .i1⟩
  | 106 => ⟨S_, .i32⟩
  | 107 => ⟨S64, .i32⟩
  | 108 => ⟨S64, .i32⟩
  | 109 => ⟨S64, .i32⟩
  | 110 => ⟨S_, .i32⟩
  | 111 => ⟨S64, .i32⟩
  | 112 => ⟨S64, .i1⟩
  | 113 => ⟨S_, .i32⟩
  | 114 => ⟨S64, .i32⟩
  | 115 => ⟨S64, .i32⟩
  | 116 => ⟨S64, .i32⟩
  | 117 => ⟨S64x1, .i32⟩
  | 118 => ⟨S64x1, .i32⟩
  | 119 => ⟨S64x2, .i32⟩
  | 120 => ⟨S_, .f32⟩
  | 121 => ⟨S4x64, .f32⟩
  | 122 => ⟨S4x50176x64, .f32⟩
  | 123 => ⟨S4x50176x3, .f32⟩
  | 124 => ⟨S4x50176x3, .i32⟩
  | 125 => ⟨S4x96x1x64, .f32⟩
  | 126 => ⟨S4x1x50176x3, .i32⟩
  | 127 => ⟨S_, .i32⟩
  | _ => ⟨S4x96x224x224, .f32⟩

abbrev hbmTy0_1 (i : Nat) : BufTy := match i % 128 with
  | 0 => ⟨S4x1x50176x3, .i32⟩
  | 1 => ⟨S4x1x50176x3, .i1⟩
  | 2 => ⟨S_, .i32⟩
  | 3 => ⟨S4x1x50176x3, .i32⟩
  | 4 => ⟨S4x1x50176x3, .i32⟩
  | 5 => ⟨S4x1x50176x3, .i32⟩
  | 6 => ⟨S4x50176x3x1, .i32⟩
  | 7 => ⟨S4x96x64, .f32⟩
  | 8 => ⟨S1, .i32⟩
  | 9 => ⟨S_, .i32⟩
  | 10 => ⟨S4x50176x3x1, .i32⟩
  | 11 => ⟨S4x50176x3x1, .i1⟩
  | 12 => ⟨S1x1x1x1, .i32⟩
  | 13 => ⟨S4x50176x3x1, .i32⟩
  | 14 => ⟨S4x50176x3x1, .i1⟩
  | 15 => ⟨S4x50176x3x1, .i1⟩
  | 16 => ⟨S_, .i1⟩
  | 17 => ⟨S4x50176x3, .i1⟩
  | 18 => ⟨S4x96x50176x3, .f32⟩
  | 19 => ⟨S4x96x50176x3, .i1⟩
  | 20 => ⟨S_, .f32⟩
  | 21 => ⟨S4x96x50176x3, .f32⟩
  | 22 => ⟨S4x96x50176x3, .f32⟩
  | 23 => ⟨S96x4x50176, .f32⟩
  | 24 => ⟨S4x96x50176, .f32⟩
  | 25 => ⟨S1x96x1, .f32⟩
  | 26 => ⟨S4x96x50176, .f32⟩
  | 27 => ⟨S4x96x50176, .f32⟩
  | 28 => ⟨S4x96x224x224, .f32⟩
  | _ => ⟨S4x96x224x224, .f32⟩

abbrev hbmTy (i : Nat) : BufTy := match i / 128 with
  | 0 => hbmTy0_0 i
  | 1 => hbmTy0_1 i
  | _ => ⟨S4x96x224x224, .f32⟩

abbrev bufTy : (tb : Table) → Fin (tcTables nBuf tb) → BufTy
  | .hbm, ⟨i, _⟩ => hbmTy i
  | _, _ => ⟨S4x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_v4 : Ref sig .tc := ⟨.hbm, 10, rfl⟩
abbrev main_call0_cst_0 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst_1 : Ref sig .tc := ⟨.hbm, 28, rfl⟩
abbrev main_cst_2 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_cst : Ref sig .tc := ⟨.hbm, 33, rfl⟩
abbrev main_call2_v3 : Ref sig .tc := ⟨.hbm, 34, rfl⟩
abbrev main_call2_v4 : Ref sig .tc := ⟨.hbm, 35, rfl⟩
abbrev main_call2_cst_0 : Ref sig .tc := ⟨.hbm, 36, rfl⟩
abbrev main_call2_v5 : Ref sig .tc := ⟨.hbm, 37, rfl⟩
abbrev main_call2_v6 : Ref sig .tc := ⟨.hbm, 38, rfl⟩
abbrev main_call2_v7 : Ref sig .tc := ⟨.hbm, 39, rfl⟩
abbrev main_call2_cst_1 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_v12 : Ref sig .tc := ⟨.hbm, 45, rfl⟩
abbrev main_call2_v13 : Ref sig .tc := ⟨.hbm, 46, rfl⟩
abbrev main_call2_v14 : Ref sig .tc := ⟨.hbm, 47, rfl⟩
abbrev main_call2_v15 : Ref sig .tc := ⟨.hbm, 48, rfl⟩
abbrev main_call2_v16 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_c : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_c_3 : Ref sig .tc := ⟨.hbm, 61, rfl⟩
abbrev main_v13 : Ref sig .tc := ⟨.hbm, 62, rfl⟩
abbrev main_v14 : Ref sig .tc := ⟨.hbm, 63, rfl⟩
abbrev main_c_4 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_c_5 : Ref sig .tc := ⟨.hbm, 68, rfl⟩
abbrev main_v18 : Ref sig .tc := ⟨.hbm, 69, rfl⟩
abbrev main_v19 : Ref sig .tc := ⟨.hbm, 70, rfl⟩
abbrev main_c_6 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_call4_v0 : Ref sig .tc := ⟨.hbm, 81, rfl⟩
abbrev main_call4_cst : Ref sig .tc := ⟨.hbm, 82, rfl⟩
abbrev main_call4_v1 : Ref sig .tc := ⟨.hbm, 83, rfl⟩
abbrev main_call4_v2 : Ref sig .tc := ⟨.hbm, 84, rfl⟩
abbrev main_v29 : Ref sig .tc := ⟨.hbm, 85, rfl⟩
abbrev main_cst_7 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_call5_v0 : Ref sig .tc := ⟨.hbm, 91, rfl⟩
abbrev main_call5_cst : Ref sig .tc := ⟨.hbm, 92, rfl⟩
abbrev main_call5_v1 : Ref sig .tc := ⟨.hbm, 93, rfl⟩
abbrev main_call5_v2 : Ref sig .tc := ⟨.hbm, 94, rfl⟩
abbrev main_v34 : Ref sig .tc := ⟨.hbm, 95, rfl⟩
abbrev main_cst_8 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_c_9 : Ref sig .tc := ⟨.hbm, 103, rfl⟩
abbrev main_v41 : Ref sig .tc := ⟨.hbm, 104, rfl⟩
abbrev main_v42 : Ref sig .tc := ⟨.hbm, 105, rfl⟩
abbrev main_c_10 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_c_11 : Ref sig .tc := ⟨.hbm, 110, rfl⟩
abbrev main_v46 : Ref sig .tc := ⟨.hbm, 111, rfl⟩
abbrev main_v47 : Ref sig .tc := ⟨.hbm, 112, rfl⟩
abbrev main_c_12 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_cst_13 : Ref sig .tc := ⟨.hbm, 120, rfl⟩
abbrev main_v54 : Ref sig .tc := ⟨.hbm, 121, rfl⟩
abbrev main_v55 : Ref sig .tc := ⟨.hbm, 122, rfl⟩
abbrev main_values : Ref sig .tc := ⟨.hbm, 123, rfl⟩
abbrev main_indices : Ref sig .tc := ⟨.hbm, 124, rfl⟩
abbrev main_v56 : Ref sig .tc := ⟨.hbm, 125, rfl⟩
abbrev main_v57 : Ref sig .tc := ⟨.hbm, 126, rfl⟩
abbrev main_call6_c : Ref sig .tc := ⟨.hbm, 127, rfl⟩
abbrev main_call6_v0 : Ref sig .tc := ⟨.hbm, 128, rfl⟩
abbrev main_call6_v1 : Ref sig .tc := ⟨.hbm, 129, rfl⟩
abbrev main_call6_c_0 : Ref sig .tc := ⟨.hbm, 130, rfl⟩
abbrev main_call6_v2 : Ref sig .tc := ⟨.hbm, 131, rfl⟩
abbrev main_call6_v3 : Ref sig .tc := ⟨.hbm, 132, rfl⟩
abbrev main_call6_v4 : Ref sig .tc := ⟨.hbm, 133, rfl⟩
abbrev main_call6_v5 : Ref sig .tc := ⟨.hbm, 134, rfl⟩
abbrev main_call6_v6 : Ref sig .tc := ⟨.hbm, 135, rfl⟩
abbrev main_call6_c_1 : Ref sig .tc := ⟨.hbm, 136, rfl⟩
abbrev main_call6_c_2 : Ref sig .tc := ⟨.hbm, 137, rfl⟩
abbrev main_call6_v7 : Ref sig .tc := ⟨.hbm, 138, rfl⟩
abbrev main_call6_v8 : Ref sig .tc := ⟨.hbm, 139, rfl⟩
abbrev main_call6_v9 : Ref sig .tc := ⟨.hbm, 140, rfl⟩
abbrev main_call6_v10 : Ref sig .tc := ⟨.hbm, 141, rfl⟩
abbrev main_call6_v11 : Ref sig .tc := ⟨.hbm, 142, rfl⟩
abbrev main_call6_v12 : Ref sig .tc := ⟨.hbm, 143, rfl⟩
abbrev main_call6_c_3 : Ref sig .tc := ⟨.hbm, 144, rfl⟩
abbrev main_call6_v13 : Ref sig .tc := ⟨.hbm, 145, rfl⟩
abbrev main_call6_v14 : Ref sig .tc := ⟨.hbm, 146, rfl⟩
abbrev main_call6_v15 : Ref sig .tc := ⟨.hbm, 147, rfl⟩
abbrev main_call6_cst : Ref sig .tc := ⟨.hbm, 148, rfl⟩
abbrev main_call6_v16 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩

abbrev nD : Nat := 1
abbrev τ : Topo := Topo.v7x

variable {F : FTy → Type} [FloatOps F]
-- ==== Proof.Run.lean ====
module

public import Idealize.ShloMosaic.Lib.Pipeline.ValueKit
public import Idealize.ShloMosaic.Lib.Claim
public import proofs.«01_k».proof.Proof.Gen.KernelIdeal.Frame

@[expose] public section

/-!
# The kernel's run, with the result array

The program reshapes its arguments, runs its two kernels and reshapes the second one's array into the result.
-/

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, the result array ends at the last boundary's contents and the arguments end as launched. -/
theorem run : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

/-- The image as the first kernel finds it: the argument with its spatial axes flattened. -/
theorem V1_image (c : Dev nD) : V1 m ρ c main_call0_v0
    = shapeCast S4x96x50176 (m ((c : Thread nD τ).loc main_arg0)) shapeCasts_S4x96x224x224_S4x96x50176 := by
  show StableHlo.after hostOps0 (W0 m ρ c) (Proc.devRef .tc main_call0_v0) = _
  entry_read
  rfl

/-- The taps as the first kernel finds them. -/
theorem V1_taps (c : Dev nD) : V1 m ρ c main_call0_v1
    = transpose S3x96x96 [2, 0, 1] (m ((c : Thread nD τ).loc main_arg1)) transposes_S96x96x3_S3x96x96_2_0_1 := by
  show StableHlo.after hostOps0 (W0 m ρ c) (Proc.devRef .tc main_call0_v1) = _
  entry_read
  rfl

/-- The bias as the kernels find it. -/
theorem V1_bias (c : Dev nD) : V1 m ρ c main_call0_v2
    = shapeCast S96x1 (m ((c : Thread nD τ).loc main_arg2)) shapeCasts_S96_S96x1 := by
  show StableHlo.after hostOps0 (W0 m ρ c) (Proc.devRef .tc main_call0_v2) = _
  entry_read
  rfl

/-- The image at the first kernel's argument. -/
theorem V1_arg0 (c : Dev nD) : V1 m ρ c main_arg0 = m ((c : Thread nD τ).loc main_arg0) :=
  W1_args m ρ c main_arg0 (by decide)

/-- The image is unchanged by the first kernel. -/
theorem V2_image (c : Dev nD) : V2 m ρ c main_call0_v0
    = shapeCast S4x96x50176 (m ((c : Thread nD τ).loc main_arg0)) shapeCasts_S4x96x224x224_S4x96x50176 :=
  (W2_of m ρ c main_call0_v0 (by decide +kernel)).trans (V1_image m ρ c)

/-- The bias is unchanged by the first kernel. -/
theorem V2_bias (c : Dev nD) : V2 m ρ c main_call0_v2
    = shapeCast S96x1 (m ((c : Thread nD τ).loc main_arg2)) shapeCasts_S96_S96x1 :=
  (W2_of m ρ c main_call0_v2 (by decide +kernel)).trans (V1_bias m ρ c)

/-- The second kernel finds the first one's three arrays. -/
theorem V2_units (c : Dev nD) : V2 m ρ c main_call0_v3_0 = (dat0 (V1 m ρ) c).arrAt 9 cfg0.N := W2_arr m ρ c 9
/-- Its second array: the convolved samples. -/
theorem V2_high (c : Dev nD) : V2 m ρ c main_call0_v3_1 = (dat0 (V1 m ρ) c).arrAt 10 cfg0.N := W2_arr m ρ c 10
/-- Its third array: what is left of them. -/
theorem V2_low (c : Dev nD) : V2 m ρ c main_call0_v3_2 = (dat0 (V1 m ρ) c).arrAt 11 cfg0.N := W2_arr m ρ c 11

/-- The result array is the second kernel's array, reshaped. -/
theorem W4_result (c : Dev nD) : W4 m ρ c (Proc.devRef .tc main_v0)
    = shapeCast S4x96x224x224 ((dat1 (V2 m ρ) c).arrAt 5 cfg1.N) shapeCasts_S4x96x50176_S4x96x224x224 := by
  rw [← W3_arr m ρ c 5]
  show StableHlo.after hostOps2 (W3 m ρ c) (Proc.devRef .tc main_v0) = _
  entry_read
  rfl

end Cert.KernelIdeal.Result
-- ==== Proof.TopK.lean ====
module

public import Idealize.ShloMosaic.Lib.Pointwise
public import Idealize.ShloMosaic.Lib.SortPrefix
public import Idealize.ShloMosaic.Lib.IdealHost

@[expose] public section

/-!
# Three rounds of "the maximum, its first position, mask it" are the first three of a stable descending sort

The order facts used by both sides: on a row of entries that are all above −∞, taking the first position of the maximum,
overwriting it with −∞ and repeating finds the positions that a stable descending sort lists first.
-/

set_option maxRecDepth 16384

noncomputable section
open Idealize.ShloMosaic

namespace Cert.Rounds

/-- `p` is the first position at which the row `s` attains its maximum. -/
structure FirstMax {n : Nat} (s : Fin n → EReal) (p : Fin n) : Prop where
  top : ∀ q, s q ≤ s p
  first : ∀ q, q < p → s q < s p

/-- The row `s` with position `p` overwritten by −∞. -/
def mask {n : Nat} (s : Fin n → EReal) (p : Fin n) : Fin n → EReal := fun q => if q = p then ⊥ else s q

/-- Position `k` sorts before `k'` in the descending sort that compares the entries alone. -/
def descends {n : Nat} (s : Fin n → EReal) (k k' : Fin n) : Bool := decide (s k' < s k)

/-- The same comparison with ties settled by the position. -/
def descendsPos {n : Nat} (s : Fin n → EReal) (k k' : Fin n) : Bool :=
  decide (s k' < s k) || (decide (s k = s k') && decide (k < k'))

/-- Comparing the entries and then the positions is a strict total order. -/
theorem descendsPos_strict {n : Nat} (s : Fin n → EReal) : StrictTotalBefore (descendsPos s) := by
  have h := StrictTotalBefore.of_key_then_position (n := n) (fun a b : EReal => decide (b < a)) s (by simp)
    (by intro a b c; simp only [decide_eq_true_eq]; intro h1 h2; exact lt_trans h2 h1)
    (by intro a b; simp only [decide_eq_true_eq]; rcases lt_trichotomy a b with h | h | h <;> simp [h])
  exact h

/-- A stable insertion sort of an ascending list of positions never meets a tie the other way round, so settling ties by
    the position changes nothing. -/
theorem stableSort_descends {n : Nat} (s : Fin n → EReal) : ∀ l : List (Fin n), l.Pairwise (· < ·) →
    stableSort (descends s) l = stableSort (descendsPos s) l
  | [], _ => rfl
  | a :: l, h => by
    unfold stableSort
    rw [stableSort_descends s l (List.pairwise_cons.1 h).2]
    refine insertBefore_congr _ _ _ _ fun b hb => ?_
    have hab := (List.pairwise_cons.1 h).1 b ((perm_stableSort _ l).mem_iff.1 hb)
    simp [descends, descendsPos, not_lt_of_gt hab]

/-- The stable descending sort lists the positions by the entry, ties by the position. -/
theorem sortedFrom_descends {n : Nat} (s : Fin n → EReal) : sortedFrom (descends s) = sortedFrom (descendsPos s) := by
  funext k
  unfold sortedFrom sortPositions
  rw [List.get_of_eq (stableSort_descends s _ (List.pairwise_lt_finRange n))]
  rfl

/-- The first position of the maximum is before every other position. -/
theorem FirstMax.before {n : Nat} {s : Fin n → EReal} {p : Fin n} (h : FirstMax s p) (q : Fin n) :
    descendsPos s q p = false := by
  simp only [descendsPos, Bool.or_eq_false_iff, Bool.and_eq_false_iff, decide_eq_false_iff_not, not_lt]
  refine ⟨h.top q, ?_⟩
  by_contra hc
  push Not at hc
  exact absurd hc.1 (ne_of_lt (h.first q hc.2))

/-- In a masked row that still has an entry above −∞, the first position of the maximum is not the masked one. -/
theorem FirstMax.ne_of_bot {n : Nat} {s : Fin n → EReal} {p : Fin n} (h : FirstMax s p) (q r : Fin n)
    (hq : s q = ⊥) (hr : s r ≠ ⊥) : p ≠ q := by
  rintro rfl
  have := h.top r
  rw [hq, le_bot_iff] at this
  exact hr this

/-- Away from the masked position the comparison of the masked row is that of the row. -/
theorem descendsPos_mask {n : Nat} (s : Fin n → EReal) (p a b : Fin n) (ha : a ≠ p) (hb : b ≠ p) :
    descendsPos (mask s p) a b = descendsPos s a b := by
  simp [descendsPos, mask, ha, hb]

/-- The three positions found by three rounds are the first three of the stable descending sort. -/
theorem rounds_eq_sort {n : Nat} (hn : 3 < n) (s : Fin n → EReal) (hs : ∀ q, s q ≠ ⊥) (p0 p1 p2 : Fin n)
    (h0 : FirstMax s p0) (h1 : FirstMax (mask s p0) p1) (h2 : FirstMax (mask (mask s p0) p1) p2) (k : Fin 3) :
    sortedFrom (descends s) (k.castLE hn.le) = ![p0, p1, p2] k := by
  -- some position is none of three given ones
  have fresh : ∀ a b : Fin n, ∃ r : Fin n, r ≠ a ∧ r ≠ b := by
    intro a b
    by_contra hc
    push Not at hc
    have hsub : (Finset.univ : Finset (Fin n)) ⊆ {a, b} := by
      intro r _
      by_cases hra : r = a
      · simp [hra]
      · simp [hc r hra]
    have hcard := Finset.card_le_card hsub
    have h2 : ({a, b} : Finset (Fin n)).card ≤ 2 := Finset.card_le_two
    rw [Finset.card_univ, Fintype.card_fin] at hcard
    omega
  have e10 : p1 ≠ p0 := by
    obtain ⟨r, hr, _⟩ := fresh p0 p0
    exact h1.ne_of_bot p0 r (by simp [mask]) (by simp [mask, hr, hs])
  have e20 : p2 ≠ p0 := by
    obtain ⟨r, hr, hr'⟩ := fresh p0 p1
    exact h2.ne_of_bot p0 r (by simp [mask]) (by simp [mask, hr, hr', hs])
  have e21 : p2 ≠ p1 := by
    obtain ⟨r, hr, hr'⟩ := fresh p0 p1
    exact h2.ne_of_bot p1 r (by simp [mask]) (by simp [mask, hr, hr', hs])
  have b0 : ∀ q, descendsPos s q p0 = false := h0.before
  have b1 : ∀ q, q ≠ p0 → descendsPos s q p1 = false := fun q hq => by
    rw [← descendsPos_mask s p0 q p1 hq e10]; exact h1.before q
  have b2 : ∀ q, q ≠ p0 → q ≠ p1 → descendsPos s q p2 = false := fun q hq hq' => by
    rw [← descendsPos_mask s p0 q p2 hq e20, ← descendsPos_mask (mask s p0) p1 q p2 hq' e21]; exact h2.before q
  rw [sortedFrom_descends]
  refine (descendsPos_strict s).sortedFrom_eq_of_prefix hn.le ![p0, p1, p2] ?_ ?_ ?_ k
  · intro i j hij
    fin_cases i <;> fin_cases j <;> simp_all
    all_goals first | exact absurd hij.symm (by assumption) | exact absurd hij (by assumption)
  · intro i j hij
    fin_cases i <;> fin_cases j <;> simp at hij ⊢ <;> first | exact b0 _ | exact b1 _ e20 | skip
  · intro i q hq
    have q0 : q ≠ p0 := fun e => hq 0 e.symm
    have q1 : q ≠ p1 := fun e => hq 1 e.symm
    fin_cases i <;> simp
    · exact b0 q
    · exact b1 q q0
    · exact b2 q q0 q1

/-- Every nonempty row has a first position of its maximum. -/
theorem exists_firstMax {n : Nat} (hn : 0 < n) (s : Fin n → EReal) : ∃ p, FirstMax s p := by
  haveI : Nonempty (Fin n) := ⟨⟨0, hn⟩⟩
  refine ⟨sortedFrom (descendsPos s) ⟨0, hn⟩, ?_, ?_⟩
  all_goals
    intro q
    have hB := descendsPos_strict s
    obtain ⟨i, rfl⟩ := sortedFrom_surjective (descendsPos s) q
    have hle : descendsPos s (sortedFrom (descendsPos s) i) (sortedFrom (descendsPos s) ⟨0, hn⟩) = false := by
      by_cases hi : i = ⟨0, hn⟩
      · rw [hi]; exact hB.irrefl _
      · exact sortedFrom_noInversion _ _ (fun a b h => hB.asymm a b h) (fun _ _ h => h) hB.negTrans _ _
          (by rw [Fin.lt_def]; have := Fin.val_ne_of_ne hi; simp at this ⊢; omega)
    simp only [descendsPos, Bool.or_eq_false_iff, Bool.and_eq_false_iff, decide_eq_false_iff_not, not_lt] at hle
  · exact hle.1
  · intro hq
    rcases hle.2 with h | h
    · exact lt_of_le_of_ne hle.1 h
    · exact absurd hq (not_lt_of_ge h)

end Cert.Rounds
-- ==== Proof.Spec.lean ====
module

public import proofs.«01_k».proof.Proof.TopK
public import Idealize.ShloMosaic.Lib.Pointwise

@[expose] public section

/-!
# What the layer computes, at an index

The image is read with its two spatial axes flattened; a sample is a flat position, one of 64; the similarity of a
position and a sample is the inner product of their normalised channel vectors, except that a sample's own position
gets a large constant; the three most similar samples, in order, are convolved with the three taps.
-/

set_option maxRecDepth 16384

noncomputable section
open Idealize.ShloMosaic

namespace Cert.Spec

/-- The eight sampled rows, which are also the eight sampled columns. -/
def pos : Fin 8 → Fin 224 := ![0, 32, 64, 96, 127, 159, 191, 223]

/-- The flat position of a sample. -/
def flat (s : Fin 64) : Fin 50176 :=
  ⟨(pos ⟨s.val / 8, by omega⟩).val * 224 + (pos ⟨s.val % 8, by omega⟩).val, by omega⟩

/-- An image: batch, channel, flat position. -/
abbrev Img := Fin 4 → Fin 96 → Fin 50176 → EReal

/-- The image of a four-axis array. -/
def img (X : FVec Ideal ⟨4, ![4, 96, 224, 224]⟩ .f32) : Img :=
  fun b c n => X (ix4 b c (⟨n.val / 224, by omega⟩ : Fin 224) (⟨n.val % 224, by omega⟩ : Fin 224))

/-- The norm of a position's channel vector, with the small constant added. -/
def nrm (x : Img) (b : Fin 4) (n : Fin 50176) : EReal :=
  Ideal.sqrt (∑ c, x b c n * x b c n) + Ideal.ofBits .f32 730643660#32

/-- The normalised channel vector of a position. -/
def unit (x : Img) (b : Fin 4) (c : Fin 96) (n : Fin 50176) : EReal := Ideal.div (x b c n) (nrm x b n)

/-- The similarity of a position and a sample. -/
def sim (x : Img) (b : Fin 4) (n : Fin 50176) (s : Fin 64) : EReal :=
  if (flat s).val = n.val then Ideal.ofBits .f32 1343554297#32 else ∑ c, unit x b c (flat s) * unit x b c n

/-- The sample of rank `k` at a position. -/
def top (x : Img) (b : Fin 4) (n : Fin 50176) (k : Fin 3) : Fin 64 :=
  sortedFrom (Rounds.descends (sim x b n)) (k.castLE (by omega))

/-- The layer's result at an index. -/
def out (x : Img) (w : Fin 96 → Fin 96 → Fin 3 → EReal) (z : Fin 96 → EReal) (b : Fin 4) (o : Fin 96) (n : Fin 50176) : EReal :=
  (∑ c, ∑ k, w o c k * x b c (flat (top x b n k))) + z o

end Cert.Spec
-- ==== Proof.Cols.lean ====
module

public import Idealize.ShloMosaic.Lib.Pipeline.ValueKit
public import proofs.«01_k».proof.Proof.Gen.KernelIdeal.Frame
public import proofs.«01_k».proof.Proof.Spec

@[expose] public section

/-!
# The sampled columns

The first kernel gathers its 64 sampled channel vectors by cutting eight columns out of each of eight image rows.
-/

set_option maxRecDepth 16384

noncomputable section
open Idealize.ShloMosaic Idealize.ShloMosaic.TcCoe Idealize.SL.Sem

namespace Cert.KernelIdeal.Tables
open Cert.KernelIdeal Cert.KernelIdeal.Gen Cert.Spec

/-- A column cut out of an image row, at an index. -/
theorem cut (v : FVec Ideal S1x96x1x224 .f32) (o : ℕ) (ho : o < 224) (h1 : S1x96x1x224.ShapeCasts S96x224)
    (h2 : S96x224.Slices ![0, o] S96x1) (i : S96x1.Idx) :
    extractStridedSlice S96x1 ![0, o] (shapeCast S96x224 v h1) h2 i = v (ix4 (0 : Fin 1) (i 0) (0 : Fin 1) (⟨o, ho⟩ : Fin 224)) := by
  idx_vars i
  pointwise

/-- One cut column as a piece of the gathered matrix. -/
theorem piece (y : Fin 8 → FVec Ideal S1x96x1x224 .f32) (c : Fin 96) (s : Fin 64) (r : Fin 8) (q : Fin 8) (o : ℕ) (ho : o < 224) (hq : pos q = ⟨o, ho⟩)
    (h1 : S1x96x1x224.ShapeCasts S96x224) (h2 : S96x224.Slices ![0, o] S96x1) (k : ℕ) (hk : k = 8 * r.val + q.val) :
    PieceAt (t := S96x64) 1 (ix2 c s) (y ⟨s.val / 8, by omega⟩ (ix4 (0 : Fin 1) c (0 : Fin 1) (pos ⟨s.val % 8, by omega⟩))) S96x1
      (extractStridedSlice S96x1 ![0, o] (shapeCast S96x224 (y r) h1) h2) k := by
  intro hj hr i hi hb
  have hs : s.val = k := hj
  have hc : (i 0).val = c.val := hb 0 (by decide)
  have er : (⟨s.val / 8, by omega⟩ : Fin 8) = r := Fin.ext (by simp; omega)
  have eq : (⟨s.val % 8, by omega⟩ : Fin 8) = q := Fin.ext (by simp; omega)
  rw [cut _ o ho, er, eq, hq]
  exact congrArg (y r) (congrArg (fun d : Fin 96 => ix4 (0 : Fin 1) d (0 : Fin 1) (⟨o, ho⟩ : Fin 224)) (Fin.ext hc))

/-- Column `s` of the gathered matrix is the sampled column of the sampled row. -/
theorem cols (y : Fin 8 → FVec Ideal S1x96x1x224 .f32) (c : Fin 96) (s : Fin 64) :
    k0_pay42 (k0_pay7 (y 0)) (k0_pay8 (y 0)) (k0_pay9 (y 0)) (k0_pay10 (y 0)) (k0_pay11 (y 0)) (k0_pay12 (y 0)) (k0_pay13 (y 0)) (k0_pay14 (y 0))
      (k0_pay16 (y 1)) (k0_pay17 (y 1)) (k0_pay18 (y 1)) (k0_pay19 (y 1)) (k0_pay20 (y 1)) (k0_pay21 (y 1)) (k0_pay22 (y 1)) (k0_pay23 (y 1))
      (k0_pay25 (y 2)) (k0_pay26 (y 2)) (k0_pay27 (y 2)) (k0_pay28 (y 2)) (k0_pay29 (y 2)) (k0_pay30 (y 2)) (k0_pay31 (y 2)) (k0_pay32 (y 2))
      (k0_pay34 (y 3)) (k0_pay35 (y 3)) (k0_pay36 (y 3)) (k0_pay37 (y 3)) (k0_pay38 (y 3)) (k0_pay39 (y 3)) (k0_pay40 (y 3)) (k0_pay41 (y 3))
      (y 4) (y 5) (y 6) (y 7) (ix2 c s)
    = y ⟨s.val / 8, by omega⟩ (ix4 (0 : Fin 1) c (0 : Fin 1) (pos ⟨s.val % 8, by omega⟩)) := by
  simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42]
  refine concatenate_unit_eq _ _ _ _ _ rfl ?_
  refine concatAt_cons _ _ _ _ (piece y c s 0 0 0 (by decide) rfl _ _ 0 rfl) ?_
  refine concatAt_cons _ _ _ _ (piece y c s 0 1 32 (by decide) rfl _ _ 1 rfl) ?_
  refine concatAt_cons _ _ _ _ (piece y c s 0 2 64 (by decide) rfl _ _ 2 rfl) ?_
  refine concatAt_cons _ _ _ _ (piece y c s 0 3 96 (by decide) rfl _ _ 3 rfl) ?_
  refine concatAt_cons _ _ _ _ (piece y c s 0 4 127 (by decide) rfl _ _ 4 rfl) ?_
  refine concatAt_cons _ _ _ _ (piece y c s 0 5 159 (by decide) rfl _ _ 5 rfl) ?_
  refine concatAt_cons _ _ _ _ (piece y c s 0 6 191 (by decide) rfl _ _ 6 rfl) ?_
  refine concatAt_cons _ _ _ _ (piece y c s 0 7 223 (by decide) rfl _ _ 7 rfl) ?_
  refine concatAt_cons _ _ _ _ (piece y c s 1 0 0 (by decide) rfl _ _ 8 rfl) ?_
  refine concatAt_cons _ _ _ _ (piece y c s 1 1 32 (by decide) rfl _ _ 9 rfl) ?_
  refine concatAt_cons _ _ _ _ (piece y c s 1 2 64 (by decide) rfl _ _ 10 rfl) ?_
  refine concatAt_cons _ _ _ _ (piece y c s 1 3 96 (by decide) rfl _ _ 11 rfl) ?_
  refine concatAt_cons _ _ _ _ (piece y c s 1 4 127 (by decide) rfl _ _ 12 rfl) ?_
  refine concatAt_cons _ _ _ _ (piece y c s 1 5 159 (by decide) rfl _ _ 13 rfl) ?_
  refine concatAt_cons _ _ _ _ (piece y c s 1 6 191 (by decide) rfl _ _ 14 rfl) ?_
  refine concatAt_cons _ _ _ _ (piece y c s 1 7 223 (by decide) rfl _ _ 15 rfl) ?_
  refine concatAt_cons _ _ _ _ (piece y c s 2 0 0 (by decide) rfl _ _ 16 rfl) ?_
  refine concatAt_cons _ _ _ _ (piece y c s 2 1 32 (by decide) rfl _ _ 17 rfl) ?_
  refine concatAt_cons _ _ _ _ (piece y c s 2 2 64 (by decide) rfl _ _ 18 rfl) ?_
  refine concatAt_cons _ _ _ _ (piece y c s 2 3 96 (by decide) rfl _ _ 19 rfl) ?_
  refine concatAt_cons _ _ _ _ (piece y c s 2 4 127 (by decide) rfl _ _ 20 rfl) ?_
  refine concatAt_cons _ _ _ _ (piece y c s 2 5 159 (by decide) rfl _ _ 21 rfl) ?_
  refine concatAt_cons _ _ _ _ (piece y c s 2 6 191 (by decide) rfl _ _ 22 rfl) ?_
  refine concatAt_cons _ _ _ _ (piece y c s 2 7 223 (by decide) rfl _ _ 23 rfl) ?_
  refine concatAt_cons _ _ _ _ (piece y c s 3 0 0 (by decide) rfl _ _ 24 rfl) ?_
  refine concatAt_cons _ _ _ _ (piece y c s 3 1 32 (by decide) rfl _ _ 25 rfl) ?_
  refine concatAt_cons _ _ _ _ (piece y c s 3 2 64 (by decide) rfl _ _ 26 rfl) ?_
  refine concatAt_cons _ _ _ _ (piece y c s 3 3 96 (by decide) rfl _ _ 27 rfl) ?_
  refine concatAt_cons _ _ _ _ (piece y c s 3 4 127 (by decide) rfl _ _ 28 rfl) ?_
  refine concatAt_cons _ _ _ _ (piece y c s 3 5 159 (by decide) rfl _ _ 29 rfl) ?_
  refine concatAt_cons _ _ _ _ (piece y c s 3 6 191 (by decide) rfl _ _ 30 rfl) ?_
  refine concatAt_cons _ _ _ _ (piece y c s 3 7 223 (by decide) rfl _ _ 31 rfl) ?_
  refine concatAt_cons _ _ _ _ (piece y c s 4 0 0 (by decide) rfl _ _ 32 rfl) ?_
  refine concatAt_cons _ _ _ _ (piece y c s 4 1 32 (by decide) rfl _ _ 33 rfl) ?_
  refine concatAt_cons _ _ _ _ (piece y c s 4 2 64 (by decide) rfl _ _ 34 rfl) ?_
  refine concatAt_cons _ _ _ _ (piece y c s 4 3 96 (by decide) rfl _ _ 35 rfl) ?_
  refine concatAt_cons _ _ _ _ (piece y c s 4 4 127 (by decide) rfl _ _ 36 rfl) ?_
  refine concatAt_cons _ _ _ _ (piece y c s 4 5 159 (by decide) rfl _ _ 37 rfl) ?_
  refine concatAt_cons _ _ _ _ (piece y c s 4 6 191 (by decide) rfl _ _ 38 rfl) ?_
  refine concatAt_cons _ _ _ _ (piece y c s 4 7 223 (by decide) rfl _ _ 39 rfl) ?_
  refine concatAt_cons _ _ _ _ (piece y c s 5 0 0 (by decide) rfl _ _ 40 rfl) ?_
  refine concatAt_cons _ _ _ _ (piece y c s 5 1 32 (by decide) rfl _ _ 41 rfl) ?_
  refine concatAt_cons _ _ _ _ (piece y c s 5 2 64 (by decide) rfl _ _ 42 rfl) ?_
  refine concatAt_cons _ _ _ _ (piece y c s 5 3 96 (by decide) rfl _ _ 43 rfl) ?_
  refine concatAt_cons _ _ _ _ (piece y c s 5 4 127 (by decide) rfl _ _ 44 rfl) ?_
  refine concatAt_cons _ _ _ _ (piece y c s 5 5 159 (by decide) rfl _ _ 45 rfl) ?_
  refine concatAt_cons _ _ _ _ (piece y c s 5 6 191 (by decide) rfl _ _ 46 rfl) ?_
  refine concatAt_cons _ _ _ _ (piece y c s 5 7 223 (by decide) rfl _ _ 47 rfl) ?_
  refine concatAt_cons _ _ _ _ (piece y c s 6 0 0 (by decide) rfl _ _ 48 rfl) ?_
  refine concatAt_cons _ _ _ _ (piece y c s 6 1 32 (by decide) rfl _ _ 49 rfl) ?_
  refine concatAt_cons _ _ _ _ (piece y c s 6 2 64 (by decide) rfl _ _ 50 rfl) ?_
  refine concatAt_cons _ _ _ _ (piece y c s 6 3 96 (by decide) rfl _ _ 51 rfl) ?_
  refine concatAt_cons _ _ _ _ (piece y c s 6 4 127 (by decide) rfl _ _ 52 rfl) ?_
  refine concatAt_cons _ _ _ _ (piece y c s 6 5 159 (by decide) rfl _ _ 53 rfl) ?_
  refine concatAt_cons _ _ _ _ (piece y c s 6 6 191 (by decide) rfl _ _ 54 rfl) ?_
  refine concatAt_cons _ _ _ _ (piece y c s 6 7 223 (by decide) rfl _ _ 55 rfl) ?_
  refine concatAt_cons _ _ _ _ (piece y c s 7 0 0 (by decide) rfl _ _ 56 rfl) ?_
  refine concatAt_cons _ _ _ _ (piece y c s 7 1 32 (by decide) rfl _ _ 57 rfl) ?_
  refine concatAt_cons _ _ _ _ (piece y c s 7 2 64 (by decide) rfl _ _ 58 rfl) ?_
  refine concatAt_cons _ _ _ _ (piece y c s 7 3 96 (by decide) rfl _ _ 59 rfl) ?_
  refine concatAt_cons _ _ _ _ (piece y c s 7 4 127 (by decide) rfl _ _ 60 rfl) ?_
  refine concatAt_cons _ _ _ _ (piece y c s 7 5 159 (by decide) rfl _ _ 61 rfl) ?_
  refine concatAt_cons _ _ _ _ (piece y c s 7 6 191 (by decide) rfl _ _ 62 rfl) ?_
  refine concatAt_cons _ _ _ _ (piece y c s 7 7 223 (by decide) rfl _ _ 63 rfl) ?_
  exact concatAt_nil _ _ _ _

end Cert.KernelIdeal.Tables
-- ==== Proof.Tables.lean ====
module

public import Idealize.ShloMosaic.Lib.Pipeline.ValueKit
public import proofs.«01_k».proof.Proof.Gen.KernelIdeal.Frame
public import proofs.«01_k».proof.Proof.Cols

@[expose] public section

/-!
# The first kernel's blocks

From eight blocks of image rows and the taps: the normalised samples, the convolved samples, and the rounding remainder
of the latter.
-/

set_option maxRecDepth 16384

noncomputable section
open Idealize.ShloMosaic Idealize.ShloMosaic.TcCoe Idealize.SL.Sem
open Idealize.ShloMosaic.Pipeline (Dat)

namespace Cert.KernelIdeal.Tables
open Cert.KernelIdeal Cert.KernelIdeal.Gen Cert.Spec

/-! ### The stored blocks at an index -/

/-- The normalised samples. -/
theorem units_at (v80 : FVec Ideal S96x64 .f32) (v84 : FVec Ideal S1x64 .f32) (k : Ideal .f32) (s : Fin 64) (c : Fin 96) :
    k0_pay1 v80 v84 k (ix3 (0 : Fin 1) s c) = Ideal.div (v80 (ix2 c s)) (v84 (ix2 (0 : Fin 1) s) + k) := by
  pointwise [k0_pay1]

/-- The convolved samples: one product per tap, side by side. -/
theorem high_at (v80 : FVec Ideal S96x64 .f32) (v : Fin 3 → FVec Ideal S1x96x96 .f32) (o : Fin 96) (r : Fin 192) :
    k0_pay4 v80 (v 0) (v 1) (v 2) (ix3 (0 : Fin 1) o r)
      = ∑ c, v ⟨r.val / 64, by omega⟩ (ix3 (0 : Fin 1) o c) * v80 (ix2 c (⟨r.val % 64, by omega⟩ : Fin 64)) := by
  pointwise [k0_pay4, k0_pay3, k0_pay2]
  by_cases h1 : r.val < 64
  · have e1 : (⟨r.val / 64, by omega⟩ : Fin 3) = 0 := Fin.ext (by simp; omega)
    have e2 : (⟨r.val % 64, by omega⟩ : Fin 64) = ⟨r.val, h1⟩ := Fin.ext (by simp; omega)
    rw [dif_pos h1, e1, e2]
  by_cases h2 : r.val - 64 < 64
  · have e1 : (⟨r.val / 64, by omega⟩ : Fin 3) = 1 := Fin.ext (by simp; omega)
    have e2 : (⟨r.val % 64, by omega⟩ : Fin 64) = ⟨r.val - 64, h2⟩ := Fin.ext (by simp; omega)
    rw [dif_neg h1, dif_pos h2, e1, e2]
  · have e1 : (⟨r.val / 64, by omega⟩ : Fin 3) = 2 := Fin.ext (by simp; omega)
    have e2 : (⟨r.val % 64, by omega⟩ : Fin 64) = ⟨r.val - 64 - 64, by omega⟩ := Fin.ext (by simp; omega)
    rw [dif_neg h1, dif_neg h2, e1, e2]

/-- The remainder of the convolved samples. -/
theorem low_at (v80 : FVec Ideal S96x64 .f32) (v1 v2 v3 : FVec Ideal S1x96x96 .f32) (o : Fin 96) (r : Fin 192) :
    k0_pay5 v80 v1 v2 v3 (ix3 (0 : Fin 1) o r)
      = k0_pay4 v80 v1 v2 v3 (ix3 (0 : Fin 1) o r) - k0_pay4 v80 v1 v2 v3 (ix3 (0 : Fin 1) o r) := by
  pointwise [k0_pay5, k0_pay4, k0_pay3]

/-! ### The pieces of the blocks read -/

/-- The first row of a block of image rows. -/
theorem row0 (x : FVec Ideal S1x96x8x224 .f32) (c : Fin 96) (q : Fin 224) :
    x (r0_0.idx (ix4 (0 : Fin 1) c (0 : Fin 1) q)) = x (ix4 (0 : Fin 1) c (0 : Fin 8) q) := by
  refine congrArg x (funext fun a => Fin.ext ?_)
  fin_cases a <;> simp [Rect.unit]

/-- The last row of a block of image rows. -/
theorem row7 (x : FVec Ideal S1x96x8x224 .f32) (c : Fin 96) (q : Fin 224) :
    x (r0_1.idx (ix4 (0 : Fin 1) c (0 : Fin 1) q)) = x (ix4 (0 : Fin 1) c (7 : Fin 8) q) := by
  refine congrArg x (funext fun a => Fin.ext ?_)
  fin_cases a <;> simp [Rect.unit]

/-- The first tap. -/
theorem tap0 (x : FVec Ideal S3x96x96 .f32) (o c : Fin 96) : x (r0_3.idx (ix3 (0 : Fin 1) o c)) = x (ix3 (0 : Fin 3) o c) := by
  refine congrArg x (funext fun a => Fin.ext ?_)
  fin_cases a <;> simp [Rect.unit]

/-- The second tap. -/
theorem tap1 (x : FVec Ideal S3x96x96 .f32) (o c : Fin 96) : x (r0_4.idx (ix3 (0 : Fin 1) o c)) = x (ix3 (1 : Fin 3) o c) := by
  refine congrArg x (funext fun a => Fin.ext ?_)
  fin_cases a <;> simp [Rect.unit]

/-- The third tap. -/
theorem tap2 (x : FVec Ideal S3x96x96 .f32) (o c : Fin 96) : x (r0_5.idx (ix3 (0 : Fin 1) o c)) = x (ix3 (2 : Fin 3) o c) := by
  refine congrArg x (funext fun a => Fin.ext ?_)
  fin_cases a <;> simp [Rect.unit]

/-! ### The gathered matrix and its norms -/

/-- The eight rows, each read out of its block. -/
abbrev rows8 (x0 x1 x2 x3 x4 x5 x6 x7 : FVec Ideal S1x96x8x224 .f32) : Fin 8 → FVec Ideal S1x96x1x224 .f32 :=
  ![fun j => x0 (r0_0.idx j), fun j => x1 (r0_0.idx j), fun j => x2 (r0_0.idx j), fun j => x3 (r0_0.idx j),
    fun j => x4 (r0_1.idx j), fun j => x5 (r0_1.idx j), fun j => x6 (r0_1.idx j), fun j => x7 (r0_1.idx j)]

/-- The gathered matrix at an index. -/
theorem gathered (x0 x1 x2 x3 x4 x5 x6 x7 : FVec Ideal S1x96x8x224 .f32) (x8 : FVec Ideal S3x96x96 .f32) (c : Fin 96) (s : Fin 64) :
    k0_pay76 (F := Ideal) x0 x1 x2 x3 x4 x5 x6 x7 x8 (ix2 c s)
      = rows8 x0 x1 x2 x3 x4 x5 x6 x7 ⟨s.val / 8, by omega⟩ (ix4 (0 : Fin 1) c (0 : Fin 1) (pos ⟨s.val % 8, by omega⟩)) :=
  cols (rows8 x0 x1 x2 x3 x4 x5 x6 x7) c s

/-- The column norm of a matrix. -/
def colNorm (v : FVec Ideal S96x64 .f32) : FVec Ideal S1x64 .f32 :=
  sqrt (shapeCast S1x64 (multiReduction .add [0] S64 (mulf v v) 0x00000000#32 reduces_S96x64_S64 (.inl rfl) rfl) shapeCasts_S64_S1x64)

/-- The column norm at an index. -/
theorem colNorm_at (v : FVec Ideal S96x64 .f32) (s : Fin 64) :
    colNorm v (ix2 (0 : Fin 1) s) = Ideal.sqrt (∑ c, v (ix2 c s) * v (ix2 c s)) := by
  pointwise [colNorm]

/-- The kernel's column norms are the gathered matrix's. -/
theorem norms (x0 x1 x2 x3 x4 x5 x6 x7 : FVec Ideal S1x96x8x224 .f32) (x8 : FVec Ideal S3x96x96 .f32) :
    k0_pay43 (F := Ideal) (k0_pay44 x0 x1 x2 x3 x4 x5 x6 x7 x8) (k0_pay45 x0 x1 x2 x3 x4 x5 x6 x7 x8)
        (k0_pay46 x0 x1 x2 x3 x4 x5 x6 x7 x8) (k0_pay47 x0 x1 x2 x3 x4 x5 x6 x7 x8)
        (k0_pay48 x0 x1 x2 x3 x4 x5 x6 x7 x8) (k0_pay49 x0 x1 x2 x3 x4 x5 x6 x7 x8)
        (k0_pay50 x0 x1 x2 x3 x4 x5 x6 x7 x8) (k0_pay51 x0 x1 x2 x3 x4 x5 x6 x7 x8)
        (k0_pay52 x0 x1 x2 x3 x4 x5 x6 x7 x8) (k0_pay53 x0 x1 x2 x3 x4 x5 x6 x7 x8)
        (k0_pay54 x0 x1 x2 x3 x4 x5 x6 x7 x8) (k0_pay55 x0 x1 x2 x3 x4 x5 x6 x7 x8)
        (k0_pay56 x0 x1 x2 x3 x4 x5 x6 x7 x8) (k0_pay57 x0 x1 x2 x3 x4 x5 x6 x7 x8)
        (k0_pay58 x0 x1 x2 x3 x4 x5 x6 x7 x8) (k0_pay59 x0 x1 x2 x3 x4 x5 x6 x7 x8)
        (k0_pay60 x0 x1 x2 x3 x4 x5 x6 x7 x8) (k0_pay61 x0 x1 x2 x3 x4 x5 x6 x7 x8)
        (k0_pay62 x0 x1 x2 x3 x4 x5 x6 x7 x8) (k0_pay63 x0 x1 x2 x3 x4 x5 x6 x7 x8)
        (k0_pay64 x0 x1 x2 x3 x4 x5 x6 x7 x8) (k0_pay65 x0 x1 x2 x3 x4 x5 x6 x7 x8)
        (k0_pay66 x0 x1 x2 x3 x4 x5 x6 x7 x8) (k0_pay67 x0 x1 x2 x3 x4 x5 x6 x7 x8)
        (k0_pay68 x0 x1 x2 x3 x4 x5 x6 x7 x8) (k0_pay69 x0 x1 x2 x3 x4 x5 x6 x7 x8)
        (k0_pay70 x0 x1 x2 x3 x4 x5 x6 x7 x8) (k0_pay71 x0 x1 x2 x3 x4 x5 x6 x7 x8)
        (k0_pay72 x0 x1 x2 x3 x4 x5 x6 x7 x8) (k0_pay73 x0 x1 x2 x3 x4 x5 x6 x7 x8)
        (k0_pay74 x0 x1 x2 x3 x4 x5 x6 x7 x8)
        (k0_pay75 x0 x1 x2 x3 x4 x5 x6 x7 x8) (View.ld x4 r0_1) (View.ld x5 r0_1) (View.ld x6 r0_1) (View.ld x7 r0_1)
      = colNorm (k0_pay76 x0 x1 x2 x3 x4 x5 x6 x7 x8) := rfl

/-- An entry of the image at a sample, read by rows and columns. -/
theorem img_flat (X : FVec Ideal S4x96x224x224 .f32) (b : Fin 4) (c : Fin 96) (s : Fin 64) :
    img X b c (flat s) = X (ix4 b c (pos ⟨s.val / 8, by omega⟩) (pos ⟨s.val % 8, by omega⟩)) := by
  have h1 : (⟨(flat s).val / 224, by omega⟩ : Fin 224) = pos ⟨s.val / 8, by omega⟩ := Fin.ext (by simp only [flat]; omega)
  have h2 : (⟨(flat s).val % 224, by omega⟩ : Fin 224) = pos ⟨s.val % 8, by omega⟩ := Fin.ext (by simp only [flat]; omega)
  rw [img, h1, h2]

/-! ### The blocks over an image -/

/-- The eight blocks hold the sampled rows of image `b`. -/
structure Reads (X : FVec Ideal S4x96x224x224 .f32) (b : Fin 4) (x0 x1 x2 x3 x4 x5 x6 x7 : FVec Ideal S1x96x8x224 .f32) : Prop where
  h0 : ∀ (c : Fin 96) (q : Fin 224), x0 (ix4 (0 : Fin 1) c (0 : Fin 8) q) = X (ix4 b c (0 : Fin 224) q)
  h1 : ∀ (c : Fin 96) (q : Fin 224), x1 (ix4 (0 : Fin 1) c (0 : Fin 8) q) = X (ix4 b c (32 : Fin 224) q)
  h2 : ∀ (c : Fin 96) (q : Fin 224), x2 (ix4 (0 : Fin 1) c (0 : Fin 8) q) = X (ix4 b c (64 : Fin 224) q)
  h3 : ∀ (c : Fin 96) (q : Fin 224), x3 (ix4 (0 : Fin 1) c (0 : Fin 8) q) = X (ix4 b c (96 : Fin 224) q)
  h4 : ∀ (c : Fin 96) (q : Fin 224), x4 (ix4 (0 : Fin 1) c (7 : Fin 8) q) = X (ix4 b c (127 : Fin 224) q)
  h5 : ∀ (c : Fin 96) (q : Fin 224), x5 (ix4 (0 : Fin 1) c (7 : Fin 8) q) = X (ix4 b c (159 : Fin 224) q)
  h6 : ∀ (c : Fin 96) (q : Fin 224), x6 (ix4 (0 : Fin 1) c (7 : Fin 8) q) = X (ix4 b c (191 : Fin 224) q)
  h7 : ∀ (c : Fin 96) (q : Fin 224), x7 (ix4 (0 : Fin 1) c (7 : Fin 8) q) = X (ix4 b c (223 : Fin 224) q)

variable {X : FVec Ideal S4x96x224x224 .f32} {b : Fin 4} {x0 x1 x2 x3 x4 x5 x6 x7 : FVec Ideal S1x96x8x224 .f32}

/-- A row of the eight is the sampled row of the image. -/
theorem Reads.row (h : Reads X b x0 x1 x2 x3 x4 x5 x6 x7) (c : Fin 96) (q : Fin 224) : ∀ r : Fin 8,
    rows8 x0 x1 x2 x3 x4 x5 x6 x7 r (ix4 (0 : Fin 1) c (0 : Fin 1) q) = X (ix4 b c (pos r) q)
  | 0 => (row0 x0 c q).trans (h.h0 c q)
  | 1 => (row0 x1 c q).trans (h.h1 c q)
  | 2 => (row0 x2 c q).trans (h.h2 c q)
  | 3 => (row0 x3 c q).trans (h.h3 c q)
  | 4 => (row7 x4 c q).trans (h.h4 c q)
  | 5 => (row7 x5 c q).trans (h.h5 c q)
  | 6 => (row7 x6 c q).trans (h.h6 c q)
  | 7 => (row7 x7 c q).trans (h.h7 c q)

/-- The gathered matrix holds the sampled channel vectors. -/
theorem Reads.gathered (h : Reads X b x0 x1 x2 x3 x4 x5 x6 x7) (x8 : FVec Ideal S3x96x96 .f32) (c : Fin 96) (s : Fin 64) :
    k0_pay76 (F := Ideal) x0 x1 x2 x3 x4 x5 x6 x7 x8 (ix2 c s) = img X b c (flat s) := by
  rw [Tables.gathered, h.row, img_flat]

/-- The first array's block: the normalised samples. -/
theorem Reads.units (h : Reads X b x0 x1 x2 x3 x4 x5 x6 x7) (x8 : FVec Ideal S3x96x96 .f32) (c : Fin 96) (s : Fin 64) :
    k0_pay1 (F := Ideal) (k0_pay76 x0 x1 x2 x3 x4 x5 x6 x7 x8) (colNorm (k0_pay76 x0 x1 x2 x3 x4 x5 x6 x7 x8))
      (Scalar.ofBits .f32 0x2B8CBCCC#32) (ix3 (0 : Fin 1) s c) = Spec.unit (img X) b c (flat s) := by
  rw [units_at, colNorm_at]
  simp only [h.gathered]
  rfl

/-- The second array's block: the convolved samples. -/
theorem Reads.high (h : Reads X b x0 x1 x2 x3 x4 x5 x6 x7) (x8 : FVec Ideal S3x96x96 .f32) (v : Fin 3 → FVec Ideal S1x96x96 .f32)
    (w : Fin 96 → Fin 96 → Fin 3 → EReal) (hv : ∀ k o c, v k (ix3 (0 : Fin 1) o c) = w o c k) (o : Fin 96) (r : Fin 192) :
    k0_pay4 (F := Ideal) (k0_pay76 x0 x1 x2 x3 x4 x5 x6 x7 x8) (v 0) (v 1) (v 2) (ix3 (0 : Fin 1) o r)
      = ∑ c, w o c ⟨r.val / 64, by omega⟩ * img X b c (flat ⟨r.val % 64, by omega⟩) := by
  rw [high_at]
  simp only [h.gathered, hv]

end Cert.KernelIdeal.Tables
-- ==== Proof.TablesArr.lean ====
module

public import proofs.«01_k».proof.Proof.Tables

@[expose] public section

/-!
# The first kernel's arrays

Each grid point fills one image's block of the three arrays, and the blocks cover them.
-/

set_option maxRecDepth 16384

noncomputable section
open Idealize.ShloMosaic Idealize.ShloMosaic.TcCoe Idealize.SL.Sem
open Idealize.ShloMosaic.Pipeline (Dat)

namespace Cert.KernelIdeal.Tables
open Cert.KernelIdeal Cert.KernelIdeal.Gen Cert.Spec

/-- Where each window's block lies at a grid point. -/
theorem idx : ∀ t : Fin cfg0.N,
    win0_0.index t = ![(grid0.coords t 0).val, 0, 0, 0] ∧ win0_1.index t = ![(grid0.coords t 0).val, 0, 4, 0]
    ∧ win0_2.index t = ![(grid0.coords t 0).val, 0, 8, 0] ∧ win0_3.index t = ![(grid0.coords t 0).val, 0, 12, 0]
    ∧ win0_4.index t = ![(grid0.coords t 0).val, 0, 15, 0] ∧ win0_5.index t = ![(grid0.coords t 0).val, 0, 19, 0]
    ∧ win0_6.index t = ![(grid0.coords t 0).val, 0, 23, 0] ∧ win0_7.index t = ![(grid0.coords t 0).val, 0, 27, 0]
    ∧ win0_8.index t = ![0, 0, 0] ∧ win0_9.index t = ![(grid0.coords t 0).val, 0, 0]
    ∧ win0_10.index t = ![(grid0.coords t 0).val, 0, 0] ∧ win0_11.index t = ![(grid0.coords t 0).val, 0, 0] :=
  (by decide +kernel : ∀ t : Fin grid0.N, _)

variable (V : (c : Dev nD) → (b : Ref sig .tc) → Buf (Elt Ideal) ((c : Thread nD τ).loc b)) (c : Dev nD)

/-- The image a grid point works on. -/
abbrev image (t : Fin cfg0.N) : Fin 4 := grid0.coords t 0

/-- The eight input blocks hold the sampled rows of the point's image. -/
theorem reads (X : FVec Ideal S4x96x224x224 .f32) (hX : V c main_arg0 = X) (t : Fin cfg0.N) :
    Reads X (image t) (iblk0 V c 0 t) (iblk0 V c 1 t) (iblk0 V c 2 t) (iblk0 V c 3 t) (iblk0 V c 4 t) (iblk0 V c 5 t)
      (iblk0 V c 6 t) (iblk0 V c 7 t) := by
  subst hX
  constructor <;> intro ch q <;> blk_simp [iblk0, idx t] <;> blk_ext [iblk0, idx t] <;> rfl

/-- The taps' block is the whole array. -/
theorem taps (T : FVec Ideal S3x96x96 .f32) (hT : V c main_call0_v1 = T) (t : Fin cfg0.N) (k : Fin 3) (o ch : Fin 96) :
    (show FVec Ideal S3x96x96 .f32 from iblk0 V c 8 t) (ix3 k o ch) = T (ix3 k o ch) := by
  subst hT
  blk_simp [iblk0, idx t]
  blk_ext [iblk0, idx t]

/-- The three taps read out of their block. -/
abbrev tap (x8 : FVec Ideal S3x96x96 .f32) : Fin 3 → FVec Ideal S1x96x96 .f32 :=
  ![fun j => x8 (r0_3.idx j), fun j => x8 (r0_4.idx j), fun j => x8 (r0_5.idx j)]

/-- A tap at an index. -/
theorem tap_at (x8 T : FVec Ideal S3x96x96 .f32) (h : ∀ k o ch, x8 (ix3 k o ch) = T (ix3 k o ch)) : ∀ (k : Fin 3) (o ch : Fin 96),
    tap x8 k (ix3 (0 : Fin 1) o ch) = T (ix3 k o ch)
  | 0, o, ch => (tap0 _ o ch).trans (h 0 o ch)
  | 1, o, ch => (tap1 _ o ch).trans (h 1 o ch)
  | 2, o, ch => (tap2 _ o ch).trans (h 2 o ch)

/-- The normalised samples of every image. -/
def unitsOf (X : FVec Ideal S4x96x224x224 .f32) : FVec Ideal S4x64x96 .bf16 :=
  fun i => Spec.unit (img X) (i 0) (i 2) (flat (i 1))

/-- The convolved samples of every image, the taps side by side. -/
def highOf (X : FVec Ideal S4x96x224x224 .f32) (T : FVec Ideal S3x96x96 .f32) : FVec Ideal S4x96x192 .bf16 :=
  fun i => ∑ ch, T (ix3 (⟨(i 2).val / 64, Nat.div_lt_of_lt_mul (i 2).isLt⟩ : Fin 3) (i 1) ch)
    * img X (i 0) ch (flat ⟨(i 2).val % 64, Nat.mod_lt _ (by decide)⟩)

/-- What rounding leaves of the convolved samples. -/
def lowOf (X : FVec Ideal S4x96x224x224 .f32) (T : FVec Ideal S3x96x96 .f32) : FVec Ideal S4x96x192 .bf16 :=
  fun i => highOf X T i - highOf X T i

/-- The normalised samples' array. -/
theorem units_arr (X : FVec Ideal S4x96x224x224 .f32) (hX : V c main_arg0 = X) :
    (dat0 V c).arrAt 9 cfg0.N = unitsOf X := by
  refine (dat0 V c).arrAt_eq_of_covers 9 (unitsOf X) (by decide +kernel) fun t _ y => ?_
  blk_simp; rw [after0_9]; frame_out
  have e : ((View.whole main_call0_v3_0).slice (win0_9.rect t)).emb y = ix3 (image t) (y 1) (y 2) := by
    idx_vars y
    blk_ext [idx t]
  rw [e]
  idx_vars y
  rw [norms, Fin.fin_one_eq_zero y0]
  have h := reads V c X hX t
  generalize iblk0 V c 8 t = x8
  generalize iblk0 V c 0 t = x0 at h ⊢
  generalize iblk0 V c 1 t = x1 at h ⊢
  generalize iblk0 V c 2 t = x2 at h ⊢
  generalize iblk0 V c 3 t = x3 at h ⊢
  generalize iblk0 V c 4 t = x4 at h ⊢
  generalize iblk0 V c 5 t = x5 at h ⊢
  generalize iblk0 V c 6 t = x6 at h ⊢
  generalize iblk0 V c 7 t = x7 at h ⊢
  exact h.units x8 y2 y1

/-- The convolved samples' array. -/
theorem high_arr (X : FVec Ideal S4x96x224x224 .f32) (hX : V c main_arg0 = X) (T : FVec Ideal S3x96x96 .f32)
    (hT : V c main_call0_v1 = T) : (dat0 V c).arrAt 10 cfg0.N = highOf X T := by
  refine (dat0 V c).arrAt_eq_of_covers 10 (highOf X T) (by decide +kernel) fun t _ y => ?_
  blk_simp; rw [after0_10]; frame_out
  have e : ((View.whole main_call0_v3_1).slice (win0_10.rect t)).emb y = ix3 (image t) (y 1) (y 2) := by
    idx_vars y
    blk_ext [idx t]
  rw [e]
  idx_vars y
  rw [Fin.fin_one_eq_zero y0]
  have h := reads V c X hX t
  have h8 := taps V c T hT t
  generalize iblk0 V c 8 t = x8 at h8 ⊢
  generalize iblk0 V c 0 t = x0 at h ⊢
  generalize iblk0 V c 1 t = x1 at h ⊢
  generalize iblk0 V c 2 t = x2 at h ⊢
  generalize iblk0 V c 3 t = x3 at h ⊢
  generalize iblk0 V c 4 t = x4 at h ⊢
  generalize iblk0 V c 5 t = x5 at h ⊢
  generalize iblk0 V c 6 t = x6 at h ⊢
  generalize iblk0 V c 7 t = x7 at h ⊢
  exact h.high x8 (tap x8) (fun o ch k => T (ix3 k o ch)) (tap_at x8 T h8) y1 y2

/-- The remainders' array. -/
theorem low_arr (X : FVec Ideal S4x96x224x224 .f32) (hX : V c main_arg0 = X) (T : FVec Ideal S3x96x96 .f32)
    (hT : V c main_call0_v1 = T) : (dat0 V c).arrAt 11 cfg0.N = lowOf X T := by
  refine (dat0 V c).arrAt_eq_of_covers 11 (lowOf X T) (by decide +kernel) fun t _ y => ?_
  blk_simp; rw [after0_11]; frame_out
  have e : ((View.whole main_call0_v3_2).slice (win0_11.rect t)).emb y = ix3 (image t) (y 1) (y 2) := by
    idx_vars y
    blk_ext [idx t]
  rw [e]
  idx_vars y
  rw [Fin.fin_one_eq_zero y0]
  have h := reads V c X hX t
  have h8 := taps V c T hT t
  generalize iblk0 V c 8 t = x8 at h8 ⊢
  generalize iblk0 V c 0 t = x0 at h ⊢
  generalize iblk0 V c 1 t = x1 at h ⊢
  generalize iblk0 V c 2 t = x2 at h ⊢
  generalize iblk0 V c 3 t = x3 at h ⊢
  generalize iblk0 V c 4 t = x4 at h ⊢
  generalize iblk0 V c 5 t = x5 at h ⊢
  generalize iblk0 V c 6 t = x6 at h ⊢
  generalize iblk0 V c 7 t = x7 at h ⊢
  have e := h.high x8 (tap x8) (fun o ch k => T (ix3 k o ch)) (tap_at x8 T h8) y1 y2
  refine (low_at _ (tap x8 0) (tap x8 1) (tap x8 2) y1 y2).trans ?_
  rw [e]
  rfl

end Cert.KernelIdeal.Tables
-- ==== Proof.Words.lean ====
module

public import proofs.«01_k».proof.Proof.TopK
public import Idealize.ShloMosaic.Lib.StableHlo.Predicate

@[expose] public section

/-!
# One round of the kernel's selection in words

The kernel finds the first position of a column's maximum as the least of the positions that equal the maximum, as a
32-bit word. This is `Rounds.FirstMax`.
-/

set_option maxRecDepth 16384

noncomputable section
open Idealize.ShloMosaic

namespace Cert.Rounds

/-- A row's maximum, folded from −∞, is the entry at the first position of the maximum. -/
theorem fold_max_eq {n : Nat} (s : Fin n → EReal) (p : Fin n) (h : FirstMax s p) :
    Finset.univ.fold max (⊥ : EReal) s = s p := by
  refine le_antisymm ?_ ?_
  · rw [Finset.fold_max_le]
    exact ⟨bot_le, fun q _ => h.top q⟩
  · rw [Finset.le_fold_max]
    exact Or.inr ⟨p, Finset.mem_univ _, le_rfl⟩

/-- The signed minimum of two words is the minimum of the integers they denote. -/
theorem toInt_minsi (a b : BitVec 32) : (IntOp.minsi a b).toInt = min a.toInt b.toInt := by
  unfold IntOp.minsi
  by_cases h : a.toInt < b.toInt
  · rw [if_pos (by simpa [BitVec.slt] using h), min_eq_left h.le]
  · rw [if_neg (by simpa [BitVec.slt] using h), min_eq_right (not_lt.1 h)]

/-- The least position at which the entry equals the maximum, as a word, is the first position of the maximum. -/
theorem fold_minsi_eq (s : Fin 64 → EReal) (mx : EReal) (p : Fin 64) (h : FirstMax s p) (hm : mx = s p)
    (f : Fin 64 → BitVec 32) (hf : ∀ x, f x = if s x = mx then BitVec.ofNat 32 x.val else 64#32) :
    Finset.univ.fold IntOp.minsi 2147483647#32 f = BitVec.ofNat 32 p.val := by
  apply BitVec.eq_of_toInt_eq
  rw [← Finset.fold_hom (op' := min) (m := BitVec.toInt) toInt_minsi]
  have val : ∀ x : Fin 64, (f x).toInt = if s x = mx then (x.val : Int) else 64 := by
    intro x
    rw [hf]
    split
    · exact StableHlo.Predicate.toInt_ofNat_small _ (by omega)
    · rfl
  have hp : (BitVec.ofNat 32 p.val).toInt = (p.val : Int) := StableHlo.Predicate.toInt_ofNat_small _ (by omega)
  rw [hp]
  refine le_antisymm ?_ ?_
  · rw [Finset.fold_min_le]
    exact Or.inr ⟨p, Finset.mem_univ _, by rw [val, if_pos hm.symm]⟩
  · rw [Finset.le_fold_min]
    refine ⟨by have : (2147483647#32).toInt = 2147483647 := rfl; omega, fun x _ => ?_⟩
    rw [val]
    split
    · rename_i hx
      by_contra hc
      have := h.first x (by rw [Fin.lt_def]; omega)
      rw [hx, hm] at this
      exact lt_irrefl _ this
    · omega

/-- Comparing a position's word with a found position's word is comparing the positions. -/
theorem cmpi_eq_pos (x p : Fin 64) :
    IntOp.cmpi .eq (BitVec.ofNat 32 x.val) (BitVec.ofNat 32 p.val) = BitVec.ofBool (decide (x = p)) := by
  have : (BitVec.ofNat 32 x.val = BitVec.ofNat 32 p.val) ↔ x = p := by
    constructor
    · intro h
      have := congrArg BitVec.toNat h
      simp only [BitVec.toNat_ofNat] at this
      exact Fin.ext (by omega)
    · rintro rfl; rfl
  simp only [IntOp.cmpi, beq_eq_decide, this]

end Cert.Rounds
-- ==== Proof.Pick.lean ====
module

public import proofs.«01_k».proof.Proof.Words
public import Idealize.ShloMosaic.Lib.Pointwise
public import proofs.«01_k».proof.Proof.Gen.KernelIdeal.Skeleton

@[expose] public section

/-!
# The selection rounds of the second kernel

The kernel takes a column's maximum three times, each time at its first position, and puts −∞ there; the rows of its
selector matrix are the three rounds' indicators, one under the other.
-/

set_option maxRecDepth 16384

noncomputable section
open Idealize.ShloMosaic Idealize.ShloMosaic.TcCoe Idealize.SL.Sem

namespace Cert.KernelIdeal.Main
open Cert.KernelIdeal Cert.KernelIdeal.Gen Cert.Rounds

/-- The word of −∞. -/
theorem ofBits_bot : Ideal.ofBits .f32 4286578688#32 = ⊥ := by simp [Ideal.ofBits, Ideal.ieee]

/-- Putting −∞ at a found position is `Rounds.mask`. -/
theorem select_mask (s : Fin 64 → EReal) (p x : Fin 64) :
    Scalar.select (IntOp.cmpi .eq (BitVec.ofNat 32 x.val) (BitVec.ofNat 32 p.val)) ⊥ (s x)
      = mask s p x := by
  rw [cmpi_eq_pos]
  by_cases h : x = p <;> simp [Scalar.select, mask, h]

/-- An indicator as a number. -/
theorem hot (r p : Fin 64) :
    FloatOps.sitofp (F := Ideal) .f32 (BitVec.setWidth 32 (IntOp.cmpi .eq (BitVec.ofNat 32 r.val) (BitVec.ofNat 32 p.val)))
      = if r = p then (1 : EReal) else 0 := by
  rw [cmpi_eq_pos]
  by_cases h : r = p
  · simp [h, FloatOps.sitofp]
  · simp [h, FloatOps.sitofp]

/-- The same at a row number. -/
theorem hotN (u : ℕ) (hu : u < 64) (p : Fin 64) :
    FloatOps.sitofp (F := Ideal) .f32 (BitVec.setWidth 32 (IntOp.cmpi .eq (BitVec.ofNat 32 u) (BitVec.ofNat 32 p.val)))
      = if u = p.val then (1 : EReal) else 0 := by
  rw [show u = (⟨u, hu⟩ : Fin 64).val from rfl, hot]
  simp only [Fin.ext_iff]

/-- Three 64-row indicators under one another. -/
theorem ladder (r : Fin 192) (p : Fin 3 → Fin 64) :
    (if h : r.val < 64 then
        FloatOps.sitofp (F := Ideal) .f32 (BitVec.setWidth 32 (IntOp.cmpi .eq (BitVec.ofNat 32 r.val) (BitVec.ofNat 32 (p 0).val)))
      else if h : r.val - 64 < 64 then
        FloatOps.sitofp (F := Ideal) .f32 (BitVec.setWidth 32 (IntOp.cmpi .eq (BitVec.ofNat 32 (r.val - 64)) (BitVec.ofNat 32 (p 1).val)))
      else
        FloatOps.sitofp (F := Ideal) .f32 (BitVec.setWidth 32 (IntOp.cmpi .eq (BitVec.ofNat 32 (r.val - 64 - 64)) (BitVec.ofNat 32 (p 2).val))))
      = if r.val % 64 = (p ⟨r.val / 64, by omega⟩).val then (1 : EReal) else 0 := by
  split_ifs with a1 a2 a3 a4
  all_goals
    rw [hotN _ (by omega)]
  · have : (⟨r.val / 64, by omega⟩ : Fin 3) = 0 := Fin.ext (by simp; omega)
    rw [this] at a2
    rw [if_pos (by omega)]
  · have : (⟨r.val / 64, by omega⟩ : Fin 3) = 0 := Fin.ext (by simp; omega)
    rw [this] at a2
    rw [if_neg (by omega)]
  · have : (⟨r.val / 64, by omega⟩ : Fin 3) = 1 := Fin.ext (by simp; omega)
    rw [this] at a4
    rw [if_pos (by omega)]
  · have : (⟨r.val / 64, by omega⟩ : Fin 3) = 1 := Fin.ext (by simp; omega)
    rw [this] at a4
    rw [if_neg (by omega)]
  · have : (⟨r.val / 64, by omega⟩ : Fin 3) = 2 := Fin.ext (by simp; omega)
    rename_i a5
    rw [this] at a5
    rw [if_pos (by omega)]
  · have : (⟨r.val / 64, by omega⟩ : Fin 3) = 2 := Fin.ext (by simp; omega)
    rename_i a5
    rw [this] at a5
    rw [if_neg (by omega)]

/-- The three rounds' positions, given that each is the first maximum of what the rounds before left. -/
theorem rows (v82 v85 : FVec Ideal S64x6272 .f32) (n : Fin 6272) (s : Fin 64 → EReal) (hs : ∀ q : Fin 64, v82 (ix2 q n) = s q)
    (p0 p1 p2 : Fin 64) (h0 : FirstMax s p0) (h1 : FirstMax (mask s p0) p1) (h2 : FirstMax (mask (mask s p0) p1) p2)
    (hm : ∀ q : Fin 64, v85 (ix2 q n) = s p0) (r : Fin 192) :
    k1_pay9 (iota .tc S64x6272 32 [0] iota_S64x6272_d0_w32) v82 v85 (ix2 r n)
      = if (r : ℕ) % 64 = (![p0, p1, p2] ⟨(r : ℕ) / 64, by omega⟩).val then (1 : EReal) else 0 := by
  pointwise [k1_pay9]
  have e0 : Finset.fold IntOp.minsi (2147483647#32) (fun x : Fin 64 => if s x = s p0 then BitVec.ofNat 32 x.val else 64#32) Finset.univ
      = BitVec.ofNat 32 p0.val := fold_minsi_eq s _ p0 h0 rfl _ fun _ => rfl
  have m1 : Finset.fold max (⊥ : EReal) (fun x : Fin 64 => mask s p0 x) Finset.univ = mask s p0 p1 := fold_max_eq _ _ h1
  have e1 : Finset.fold IntOp.minsi (2147483647#32) (fun x : Fin 64 => if mask s p0 x = mask s p0 p1 then BitVec.ofNat 32 x.val else 64#32) Finset.univ
      = BitVec.ofNat 32 p1.val := fold_minsi_eq _ _ p1 h1 rfl _ fun _ => rfl
  have m2 : Finset.fold max (⊥ : EReal) (fun x : Fin 64 => mask (mask s p0) p1 x) Finset.univ = mask (mask s p0) p1 p2 := fold_max_eq _ _ h2
  have e2 : Finset.fold IntOp.minsi (2147483647#32) (fun x : Fin 64 => if mask (mask s p0) p1 x = mask (mask s p0) p1 p2 then BitVec.ofNat 32 x.val else 64#32) Finset.univ
      = BitVec.ofNat 32 p2.val := fold_minsi_eq _ _ p2 h2 rfl _ fun _ => rfl
  simp only [hs, hm, ofBits_bot]
  simp only [e0]
  simp only [select_mask]
  simp only [m1]
  simp only [e1]
  simp only [select_mask]
  simp only [m2]
  simp only [e2]
  exact ladder r ![p0, p1, p2]

end Cert.KernelIdeal.Main
-- ==== Proof.FlatWord.lean ====
module

public import Idealize.ShloMosaic.Lib.Pointwise
public import proofs.«01_k».proof.Proof.Gen.KernelIdeal.Skeleton
public import proofs.«01_k».proof.Proof.Spec

@[expose] public section

/-!
# A sample's flat position as the second kernel computes it

The kernel forms a sample's row and column as the floor of `(446 k + 7) / 14`, then `row * 224 + column`, in 32-bit
words, and compares it with the word of the position.
-/

set_option maxRecDepth 16384

noncomputable section
open Idealize.ShloMosaic Idealize.ShloMosaic.TcCoe Idealize.SL.Sem

namespace Cert.KernelIdeal.Main
open Cert.KernelIdeal Cert.KernelIdeal.Gen Cert.Spec

/-- The kernel's arithmetic on one coordinate gives the sampled row. -/
theorem cell (k : Fin 8) :
    FloatOps.fptosi (F := Ideal) (φ := .f32) 32 (Ideal.liftRound Int.floor (Ideal.div
      (Ideal.ofBits .f32 1138688000#32 * FloatOps.sitofp (F := Ideal) .f32 (BitVec.ofNat 32 k.val) + Ideal.ofBits .f32 1088421888#32)
      (Ideal.ofBits .f32 1096810496#32))) = BitVec.ofNat 32 (pos k).val := by
  have e1 : Ideal.ofBits .f32 1138688000#32 = ((446 : ℝ) : EReal) := by
    simp [Ideal.ofBits, Ideal.ieee, -EReal.coe_mul]; norm_num
  have e2 : Ideal.ofBits .f32 1088421888#32 = ((7 : ℝ) : EReal) := by
    simp [Ideal.ofBits, Ideal.ieee, -EReal.coe_mul]; norm_num
  have e3 : Ideal.ofBits .f32 1096810496#32 = ((14 : ℝ) : EReal) := by
    simp [Ideal.ofBits, Ideal.ieee, -EReal.coe_mul]; norm_num
  have e4 : FloatOps.sitofp (F := Ideal) .f32 (BitVec.ofNat 32 k.val) = ((k.val : ℝ) : EReal) := by
    fin_cases k <;> simp [FloatOps.sitofp]
  have e5 : Int.floor ((446 * (k.val : ℝ) + 7) / 14) = ((pos k).val : ℤ) := by
    rw [Int.floor_eq_iff]
    fin_cases k <;> norm_num [pos]
  have e6 : Ideal.div (((446 * (k.val : ℝ) + 7 : ℝ)) : EReal) ((14 : ℝ) : EReal) = (((446 * (k.val : ℝ) + 7) / 14 : ℝ) : EReal) := by
    rw [Ideal.div, if_neg (by norm_num), ← EReal.coe_inv, ← EReal.coe_mul, div_eq_mul_inv]
  rw [e1, e2, e3, e4, ← EReal.coe_mul, ← EReal.coe_add, e6]
  show Ideal.fptosi 32 (Ideal.liftRound Int.floor (((446 * (k.val : ℝ) + 7) / 14 : ℝ) : EReal)) = _
  rw [show Ideal.liftRound Int.floor (((446 * (k.val : ℝ) + 7) / 14 : ℝ) : EReal)
    = (((Int.floor ((446 * (k.val : ℝ) + 7) / 14) : ℤ) : ℝ) : EReal) from rfl, e5]
  have e7 : ∀ z : ℕ, z < 224 → Ideal.fptosi 32 ((((z : ℕ) : ℤ) : ℝ) : EReal) = BitVec.ofNat 32 z := by
    intro z hz
    show BitVec.ofInt 32 (max _ (min _ (if (0 : ℝ) ≤ (((z : ℕ) : ℤ) : ℝ) then ⌊(((z : ℕ) : ℤ) : ℝ)⌋ else ⌈(((z : ℕ) : ℤ) : ℝ)⌉))) = _
    rw [if_pos (by simp), Int.floor_intCast, min_eq_right (by norm_num; omega), max_eq_right (by norm_num)]
    simp
  exact e7 _ (pos k).isLt

/-- The sample number divided by 8, in words, with the rounding correction. -/
theorem quotWord : ∀ q : Fin 64,
    Scalar.select
      (IntOp.andi
        (IntOp.cmpi .ne
          (IntOp.subi (BitVec.setWidth 32 (IntOp.cmpi .sgt (BitVec.ofNat 32 q.val) 0#32))
            (BitVec.setWidth 32 (IntOp.cmpi .slt (BitVec.ofNat 32 q.val) 0#32)))
          (Scalar.subi (Scalar.extui (Scalar.cmpi .sgt 8#32 0#32)) (Scalar.extui (Scalar.cmpi .slt 8#32 0#32))))
        (IntOp.cmpi .ne (IntOp.remsi .vector (BitVec.ofNat 32 q.val) 8#32) 0#32))
      (IntOp.subi (IntOp.divsi .vector (BitVec.ofNat 32 q.val) 8#32) 1#32)
      (IntOp.divsi .vector (BitVec.ofNat 32 q.val) 8#32) = BitVec.ofNat 32 (q.val / 8) := by
  decide +kernel

/-- The remainder of the sample number by 8, in words, with the sign correction. -/
theorem remWord : ∀ q : Fin 64,
    Scalar.select
      (IntOp.andi
        (IntOp.xori
          (IntOp.cmpi .slt
            (IntOp.remsi .vector (BitVec.ofNat 32 q.val) (Scalar.select (Scalar.cmpi .eq 8#32 0#32) 1#32 8#32)) 0#32)
          (Scalar.cmpi .slt (Scalar.select (Scalar.cmpi .eq 8#32 0#32) 1#32 8#32) 0#32))
        (IntOp.cmpi .ne
          (IntOp.remsi .vector (BitVec.ofNat 32 q.val) (Scalar.select (Scalar.cmpi .eq 8#32 0#32) 1#32 8#32)) 0#32))
      (IntOp.addi
        (IntOp.remsi .vector (BitVec.ofNat 32 q.val) (Scalar.select (Scalar.cmpi .eq 8#32 0#32) 1#32 8#32))
        (Scalar.select (Scalar.cmpi .eq 8#32 0#32) 1#32 8#32))
      (IntOp.remsi .vector (BitVec.ofNat 32 q.val) (Scalar.select (Scalar.cmpi .eq 8#32 0#32) 1#32 8#32))
      = BitVec.ofNat 32 (q.val % 8) := by
  decide +kernel

/-- The flat position in words. -/
theorem flatWord (q : Fin 64) :
    IntOp.addi (IntOp.muli (BitVec.ofNat 32 (pos ⟨q.val / 8, by omega⟩).val) 224#32) (BitVec.ofNat 32 (pos ⟨q.val % 8, by omega⟩).val)
      = BitVec.ofNat 32 (flat q).val := by
  revert q
  decide +kernel

/-- The word of the position in the tile `k`. -/
theorem hereWord (k n : ℕ) :
    IntOp.addi (BitVec.ofNat 32 n) (Scalar.muli (BitVec.ofNat 32 k) 6272#32) = BitVec.ofNat 32 (k * 6272 + n) := by
  apply BitVec.eq_of_toNat_eq
  simp [IntOp.addi, Scalar.muli, IntOp.muli, Nat.add_comm]

/-- The masked similarity: the large constant at the sample's own position, the product elsewhere. -/
theorem masked (i : grid1.Coords) (v13 : FVec Ideal S64x6272 .f32) (q : Fin 64) (n : Fin 6272) :
    k1_pay7 v13 (iota .tc S64x6272 32 [0] iota_S64x6272_d0_w32) (k1_pay3 i) k1_pay4 k1_pay5 k1_pay6 (ix2 q n)
      = if (flat q).val = (i 1).val * 6272 + n.val then Ideal.ofBits .f32 1343554297#32 else v13 (ix2 q n) := by
  pointwise [k1_pay7, k1_pay3, k1_pay4, k1_pay5, k1_pay6]
  rw [quotWord, remWord, cell ⟨q.val / 8, by omega⟩, cell ⟨q.val % 8, by omega⟩, flatWord, hereWord]
  have hi : (i 1).val < 8 := (i 1).isLt
  have hf : (flat q).val < 50176 := (flat q).isLt
  have key : (BitVec.ofNat 32 (flat q).val = BitVec.ofNat 32 ((i 1).val * 6272 + n.val)) ↔ (flat q).val = (i 1).val * 6272 + n.val := by
    constructor
    · intro h
      have := congrArg BitVec.toNat h
      simp only [BitVec.toNat_ofNat] at this
      omega
    · intro h; rw [h]
  by_cases h : (flat q).val = (i 1).val * 6272 + n.val
  · simp [IntOp.cmpi, Scalar.select, h]
  · have hb : (BitVec.ofNat 32 (flat q).val == BitVec.ofNat 32 ((i 1).val * 6272 + n.val)) = false := by
      rw [beq_eq_false_iff_ne]
      exact fun e => h (key.1 e)
    simp [IntOp.cmpi, Scalar.select, h, hb]

end Cert.KernelIdeal.Main
-- ==== Proof.Point.lean ====
module

public import proofs.«01_k».proof.Proof.Pick
public import proofs.«01_k».proof.Proof.FlatWord
public import Idealize.ShloMosaic.Lib.Pipeline.ValueKit

@[expose] public section

/-!
# One output block of the second kernel

From the image block, the normalised samples, the convolved samples and the bias, the kernel's block is the layer's
result at the block's positions.
-/

set_option maxRecDepth 16384

noncomputable section
open Idealize.ShloMosaic Idealize.ShloMosaic.TcCoe Idealize.SL.Sem

namespace Cert.KernelIdeal.Main
open Cert.KernelIdeal Cert.KernelIdeal.Gen Cert.Spec Cert.Rounds

/-- Summing against three stacked indicators picks one entry of each 64. -/
theorem sum_hot (f : Fin 192 → EReal) (p : Fin 3 → Fin 64) :
    (∑ x : Fin 192, f x * (if x.val % 64 = (p ⟨x.val / 64, by omega⟩).val then (1 : EReal) else 0))
      = ∑ k : Fin 3, f ⟨k.val * 64 + (p k).val, by omega⟩ := by
  rw [Fin.sum_univ_tiles 3 64 rfl]
  refine Finset.sum_congr rfl fun k _ => ?_
  rw [Finset.sum_eq_single (p k)]
  · have e1 : (k.val * 64 + (p k).val) % 64 = (p k).val := by omega
    have e2 : (⟨(k.val * 64 + (p k).val) / 64, by omega⟩ : Fin 3) = k := Fin.ext (by simp; omega)
    simp only [e1, e2, if_true, mul_one]
  · intro t _ ht
    have e1 : (k.val * 64 + t.val) % 64 = t.val := by omega
    have e2 : (⟨(k.val * 64 + t.val) / 64, by omega⟩ : Fin 3) = k := Fin.ext (by simp; omega)
    have e3 : ¬ t.val = (p k).val := fun e => ht (Fin.ext e)
    simp only [e1, e2, e3, if_false, mul_zero]
  · intro h
    exact absurd (Finset.mem_univ _) h

/-- The similarity before masking: the inner product of the normalised vectors. -/
theorem product (x0 : FVec Ideal S1x96x6272 .f32) (x1 : FVec Ideal S1x64x96 .bf16) (x : Img) (b : Fin 4)
    (n : Fin 6272) (N : Fin 50176) (h0 : ∀ c : Fin 96, x0 (ix3 (0 : Fin 1) c n) = x b c N)
    (h1 : ∀ (s : Fin 64) (c : Fin 96), x1 (ix3 (0 : Fin 1) s c) = Spec.unit x b c (flat s)) (q : Fin 64) :
    k1_pay2 (F := Ideal) x0 x1 (ix2 q n) = ∑ c, Spec.unit x b c (flat q) * Spec.unit x b c N := by
  pointwise [k1_pay2]
  simp only [h0, h1]
  rfl

/-- The column maximum over the masked similarities. -/
theorem colMax (v13 : FVec Ideal S64x6272 .f32) (v14 v18 v20 v40 : IVec S64x6272 32) (v39 : IVec S64x6272 1) (q : Fin 64) (n : Fin 6272) :
    k1_pay8 v13 v14 v18 v20 v39 v40 (ix2 q n)
      = Finset.fold max (Ideal.ofBits .f32 4286578688#32) (fun x : Fin 64 => k1_pay7 v13 v14 v18 v20 v39 v40 (ix2 x n)) Finset.univ := by
  pointwise [k1_pay8]

/-- The block written at a point is the layer's result at its positions. -/
theorem block (i : grid1.Coords) (x0 : FVec Ideal S1x96x6272 .f32) (x1 : FVec Ideal S1x64x96 .bf16) (x2 x3 : FVec Ideal S1x96x192 .bf16)
    (x4 : FVec Ideal S96x1 .f32) (x : Img) (w : Fin 96 → Fin 96 → Fin 3 → EReal) (z : Fin 96 → EReal) (b : Fin 4)
    (n : Fin 6272) (N : Fin 50176) (hN : N.val = (i 1).val * 6272 + n.val)
    (h0 : ∀ c : Fin 96, x0 (ix3 (0 : Fin 1) c n) = x b c N)
    (h1 : ∀ (s : Fin 64) (c : Fin 96), x1 (ix3 (0 : Fin 1) s c) = Spec.unit x b c (flat s))
    (h2 : ∀ (o : Fin 96) (k : Fin 3) (s : Fin 64),
      x2 (ix3 (0 : Fin 1) o (⟨k.val * 64 + s.val, by omega⟩ : Fin 192)) = ∑ c, w o c k * x b c (flat s))
    (h3 : ∀ (o : Fin 96) (r : Fin 192), x3 (ix3 (0 : Fin 1) o r) = 0)
    (h4 : ∀ o : Fin 96, x4 (ix2 o (0 : Fin 1)) = z o)
    (hfin : ∀ s, sim x b N s ≠ ⊥) (o : Fin 96) :
    k1_pay1 (F := Ideal)
      (k1_pay9 (iota .tc S64x6272 32 [0] iota_S64x6272_d0_w32)
        (k1_pay7 (k1_pay2 (F := Ideal) x0 x1) (iota .tc S64x6272 32 [0] iota_S64x6272_d0_w32) (k1_pay3 i) k1_pay4 k1_pay5 k1_pay6)
        (k1_pay8 (k1_pay2 (F := Ideal) x0 x1) (iota .tc S64x6272 32 [0] iota_S64x6272_d0_w32) (k1_pay3 i) k1_pay4 k1_pay5 k1_pay6))
      (k1_pay10 (iota .tc S64x6272 32 [0] iota_S64x6272_d0_w32)
        (k1_pay7 (k1_pay2 (F := Ideal) x0 x1) (iota .tc S64x6272 32 [0] iota_S64x6272_d0_w32) (k1_pay3 i) k1_pay4 k1_pay5 k1_pay6)
        (k1_pay8 (k1_pay2 (F := Ideal) x0 x1) (iota .tc S64x6272 32 [0] iota_S64x6272_d0_w32) (k1_pay3 i) k1_pay4 k1_pay5 k1_pay6) x2)
      x3 x4 (ix3 (0 : Fin 1) o n) = Spec.out x w z b o N := by
  have hs : ∀ q : Fin 64, k1_pay7 (k1_pay2 (F := Ideal) x0 x1) (iota .tc S64x6272 32 [0] iota_S64x6272_d0_w32) (k1_pay3 i) k1_pay4 k1_pay5 k1_pay6 (ix2 q n)
      = sim x b N q := by
    intro q
    rw [masked, product x0 x1 x b n N h0 h1, sim, hN]
  obtain ⟨p0, f0⟩ := exists_firstMax (by decide) (sim x b N)
  obtain ⟨p1, f1⟩ := exists_firstMax (by decide) (mask (sim x b N) p0)
  obtain ⟨p2, f2⟩ := exists_firstMax (by decide) (mask (mask (sim x b N) p0) p1)
  have hm : ∀ q : Fin 64, k1_pay8 (k1_pay2 (F := Ideal) x0 x1) (iota .tc S64x6272 32 [0] iota_S64x6272_d0_w32) (k1_pay3 i) k1_pay4 k1_pay5 k1_pay6 (ix2 q n)
      = sim x b N p0 := by
    intro q
    rw [colMax]
    simp only [hs, ofBits_bot]
    exact fold_max_eq _ _ f0
  have hr := rows _ _ n (sim x b N) hs p0 p1 p2 f0 f1 f2 hm
  have ht : ∀ k : Fin 3, top x b N k = ![p0, p1, p2] k := rounds_eq_sort (by decide) _ hfin p0 p1 p2 f0 f1 f2
  generalize k1_pay7 (k1_pay2 (F := Ideal) x0 x1) (iota .tc S64x6272 32 [0] iota_S64x6272_d0_w32) (k1_pay3 i) k1_pay4 k1_pay5 k1_pay6 = v82 at *
  generalize k1_pay8 (k1_pay2 (F := Ideal) x0 x1) (iota .tc S64x6272 32 [0] iota_S64x6272_d0_w32) (k1_pay3 i) k1_pay4 k1_pay5 k1_pay6 = v85 at *
  pointwise [k1_pay1, k1_pay10]
  simp only [hr]
  rw [sum_hot (fun r => x2 (ix3 (0 : Fin 1) o r)) ![p0, p1, p2], sum_hot (fun r => x3 (ix3 (0 : Fin 1) o r)) ![p0, p1, p2]]
  simp only [h2, h3, h4, Finset.sum_const_zero, add_zero, zero_add, Spec.out, ht]
  rw [Finset.sum_comm]

end Cert.KernelIdeal.Main
-- ==== Proof.Main.lean ====
module

public import Idealize.ShloMosaic.Lib.Pipeline.ValueKit
public import proofs.«01_k».proof.Proof.Gen.KernelIdeal.Frame
public import proofs.«01_k».proof.Proof.Point

@[expose] public section

/-!
# The second kernel's array

Each grid point fills a run of pixels of one image with the sums of their three nearest samples' convolved vectors.
-/

set_option maxRecDepth 16384

noncomputable section
open Idealize.ShloMosaic Idealize.ShloMosaic.TcCoe Idealize.SL.Sem
open Idealize.ShloMosaic.Pipeline (Dat)

namespace Cert.KernelIdeal.Main
open Cert.KernelIdeal Cert.KernelIdeal.Gen Cert.Spec

/-- Where each window's block lies at a grid point. -/
theorem idx : ∀ t : Fin cfg1.N,
    win1_0.index t = ![(grid1.coords t 0).val, 0, (grid1.coords t 1).val] ∧ win1_1.index t = ![(grid1.coords t 0).val, 0, 0]
    ∧ win1_2.index t = ![(grid1.coords t 0).val, 0, 0] ∧ win1_3.index t = ![(grid1.coords t 0).val, 0, 0]
    ∧ win1_4.index t = ![0, 0] ∧ win1_5.index t = ![(grid1.coords t 0).val, 0, (grid1.coords t 1).val] :=
  (by decide +kernel : ∀ t : Fin grid1.N, _)

variable (V : (c : Dev nD) → (b : Ref sig .tc) → Buf (Elt Ideal) ((c : Thread nD τ).loc b)) (c : Dev nD)

/-- The image a grid point works on. -/
abbrev image (t : Fin cfg1.N) : Fin 4 := grid1.coords t 0

/-- The pixel a place in a grid point's block is. -/
def pixel (t : Fin cfg1.N) (n : Fin 6272) : Fin 50176 :=
  ⟨(grid1.coords t 1).val * 6272 + n.val, by
    have h : (grid1.coords t 1).val < 8 := (grid1.coords t 1).isLt
    omega⟩

/-- The pixels' block. -/
theorem block0 (Y : FVec Ideal S4x96x50176 .f32) (hY : V c main_call0_v0 = Y) (t : Fin cfg1.N) (ch : Fin 96) (n : Fin 6272) :
    (show FVec Ideal S1x96x6272 .f32 from iblk1 V c 0 t) (ix3 (0 : Fin 1) ch n) = Y (ix3 (image t) ch (pixel t n)) := by
  subst hY
  blk_simp [iblk1, idx t]
  blk_ext [iblk1, idx t, pixel] <;> rfl

/-- The normalised samples' block. -/
theorem block1 (U : FVec Ideal S4x64x96 .bf16) (hU : V c main_call0_v3_0 = U) (t : Fin cfg1.N) (s : Fin 64) (ch : Fin 96) :
    (show FVec Ideal S1x64x96 .bf16 from iblk1 V c 1 t) (ix3 (0 : Fin 1) s ch) = U (ix3 (image t) s ch) := by
  subst hU
  blk_simp [iblk1, idx t]
  blk_ext [iblk1, idx t] <;> rfl

/-- The convolved samples' block. -/
theorem block2 (A : FVec Ideal S4x96x192 .bf16) (hA : V c main_call0_v3_1 = A) (t : Fin cfg1.N) (o : Fin 96) (r : Fin 192) :
    (show FVec Ideal S1x96x192 .bf16 from iblk1 V c 2 t) (ix3 (0 : Fin 1) o r) = A (ix3 (image t) o r) := by
  subst hA
  blk_simp [iblk1, idx t]
  blk_ext [iblk1, idx t] <;> rfl

/-- The remainders' block. -/
theorem block3 (A : FVec Ideal S4x96x192 .bf16) (hA : V c main_call0_v3_2 = A) (t : Fin cfg1.N) (o : Fin 96) (r : Fin 192) :
    (show FVec Ideal S1x96x192 .bf16 from iblk1 V c 3 t) (ix3 (0 : Fin 1) o r) = A (ix3 (image t) o r) := by
  subst hA
  blk_simp [iblk1, idx t]
  blk_ext [iblk1, idx t] <;> rfl

/-- The bias' block is the whole array. -/
theorem block4 (Z : FVec Ideal S96x1 .f32) (hZ : V c main_call0_v2 = Z) (t : Fin cfg1.N) (o : Fin 96) :
    (show FVec Ideal S96x1 .f32 from iblk1 V c 4 t) (ix2 o (0 : Fin 1)) = Z (ix2 o (0 : Fin 1)) := by
  subst hZ
  blk_simp [iblk1, idx t]
  blk_ext [iblk1, idx t]

/-- The result of the specification, as an array. -/
def outOf (x : Img) (w : Fin 96 → Fin 96 → Fin 3 → EReal) (z : Fin 96 → EReal) : FVec Ideal S4x96x50176 .f32 :=
  fun i => Spec.out x w z (i 0) (i 1) (i 2)

/-- The second kernel's array is the specification's result, from arrays that hold what the specification names. -/
theorem main_arr (Y : FVec Ideal S4x96x50176 .f32) (hY : V c main_call0_v0 = Y) (U : FVec Ideal S4x64x96 .bf16)
    (hU : V c main_call0_v3_0 = U) (A : FVec Ideal S4x96x192 .bf16) (hA : V c main_call0_v3_1 = A)
    (L : FVec Ideal S4x96x192 .bf16) (hL : V c main_call0_v3_2 = L) (Z : FVec Ideal S96x1 .f32) (hZ : V c main_call0_v2 = Z)
    (x : Img) (w : Fin 96 → Fin 96 → Fin 3 → EReal) (z : Fin 96 → EReal)
    (h0 : ∀ b ch n, Y (ix3 b ch n) = x b ch n) (h1 : ∀ b s ch, U (ix3 b s ch) = Spec.unit x b ch (flat s))
    (h2 : ∀ b o (k : Fin 3) (s : Fin 64),
      A (ix3 b o (⟨k.val * 64 + s.val, by omega⟩ : Fin 192)) = ∑ ch, w o ch k * x b ch (flat s))
    (h3 : ∀ b o r, L (ix3 b o r) = 0) (h4 : ∀ o, Z (ix2 o (0 : Fin 1)) = z o) (hfin : ∀ b n s, sim x b n s ≠ ⊥) :
    (dat1 V c).arrAt 5 cfg1.N = outOf x w z := by
  refine (dat1 V c).arrAt_eq_of_covers 5 (outOf x w z) (by decide +kernel) fun t _ y => ?_
  blk_simp; rw [after1_5]; frame_out
  unfold k1_pay17 k1_pay18
  unfold k1_pay11 k1_pay12 k1_pay13 k1_pay14 k1_pay15 k1_pay16
  frame_out
  have e : ((View.whole main_call0_v4).slice (win1_5.rect t)).emb y = ix3 (image t) (y 1) (pixel t (y 2)) := by
    idx_vars y
    blk_ext [idx t, pixel]
  rw [e]
  idx_vars y
  rw [Fin.fin_one_eq_zero y0]
  have e0 := block0 V c Y hY t
  have e1 := block1 V c U hU t
  have e2 := block2 V c A hA t
  have e3 := block3 V c L hL t
  have e4 := block4 V c Z hZ t
  generalize iblk1 V c 0 t = x0 at e0 ⊢
  generalize iblk1 V c 1 t = x1 at e1 ⊢
  generalize iblk1 V c 2 t = x2 at e2 ⊢
  generalize iblk1 V c 3 t = x3 at e3 ⊢
  generalize iblk1 V c 4 t = x4 at e4 ⊢
  exact block (grid1.coords t) x0 x1 x2 x3 x4 x w z (image t) y2 (pixel t y2) rfl
    (fun ch => (e0 ch y2).trans (h0 _ _ _)) (fun s ch => (e1 s ch).trans (h1 _ _ _))
    (fun o k s => (e2 o _).trans (h2 _ _ _ _)) (fun o r => (e3 o r).trans (h3 _ _ _)) (fun o => (e4 o).trans (h4 o))
    (hfin _ _) y1

end Cert.KernelIdeal.Main
-- ==== Proof.Finite.lean ====
module

public import Idealize.ShloMosaic.Lib.Pointwise
public import proofs.«01_k».proof.Proof.Spec
public import proofs.«01_k».proof.Pre_finite_inputs

@[expose] public section

/-!
# What finite inputs give

With a finite image and finite taps every similarity is above minus infinity and every convolved sample is finite, so
that taking it from itself leaves zero.
-/

set_option maxRecDepth 16384

noncomputable section
open Idealize.ShloMosaic

namespace Cert.Spec

/-- A finite value. -/
abbrev Finite' (a : EReal) : Prop := ∃ r : ℝ, a = r

/-- An absolute value below the infinity constant is that of a finite value. -/
theorem finite_of_below (a : EReal)
    (h : FloatOps.cmpf (F := Ideal) (φ := .f32) .olt (FloatOps.hostAbsf (F := Ideal) (φ := .f32) a) (Ideal.ofBits .f32 0x7F800000#32) = 1#1) :
    Finite' a := by
  have inf : Ideal.ofBits .f32 0x7F800000#32 = ⊤ := by simp [Ideal.ofBits, Ideal.ieee]
  rw [inf] at h
  have lt : max a (-a) < ⊤ := by
    by_contra hn
    have : BitVec.ofBool (decide (max a (-a) < ⊤)) = 1#1 := h
    rw [decide_eq_false hn] at this
    exact absurd this (by decide)
  induction a with
  | bot => simp at lt
  | coe r => exact ⟨r, rfl⟩
  | top => simp at lt

/-- A product of finite values is finite. -/
theorem finite_mul {a a' : EReal} : Finite' a → Finite' a' → Finite' (a * a')
  | ⟨r, h⟩, ⟨r', h'⟩ => ⟨r * r', by rw [h, h', EReal.coe_mul]⟩

/-- The numbers' sum and the extended reals' are the same. -/
theorem coe_sum {ι : Type} (s : Finset ι) (r : ι → ℝ) : ((∑ i ∈ s, r i : ℝ) : EReal) = ∑ i ∈ s, (r i : EReal) := by
  classical
  induction s using Finset.induction_on with
  | empty => simp
  | insert a s h ih => rw [Finset.sum_insert h, Finset.sum_insert h, EReal.coe_add, ih]

/-- A sum of finite values is finite. -/
theorem finite_sum {ι : Type} (s : Finset ι) (f : ι → EReal) (h : ∀ i, Finite' (f i)) : Finite' (∑ i ∈ s, f i) := by
  choose r hr using h
  exact ⟨∑ i ∈ s, r i, by rw [coe_sum]; exact Finset.sum_congr rfl fun i _ => hr i⟩

/-- The norm of a finite channel vector is a positive number. -/
theorem nrm_finite (x : Img) (hx : ∀ b c n, Finite' (x b c n)) (b : Fin 4) (n : Fin 50176) :
    ∃ r : ℝ, nrm x b n = r ∧ 0 < r := by
  choose f hf using fun c => hx b c n
  have e : (∑ c, x b c n * x b c n) = ((∑ c, f c * f c : ℝ) : EReal) := by
    rw [coe_sum]
    exact Finset.sum_congr rfl fun c _ => by rw [hf c, EReal.coe_mul]
  have nonneg : ¬ (∑ c, f c * f c) < 0 := not_lt.mpr (Finset.sum_nonneg fun c _ => mul_self_nonneg _)
  obtain ⟨q, hq, pq⟩ : ∃ q : ℝ, Ideal.ofBits .f32 730643660#32 = (q : EReal) ∧ 0 < q := by
    refine ⟨9223372 * (2 : ℝ) ^ (-(63 : ℤ)), ?_, by positivity⟩
    simp [Ideal.ofBits, Ideal.ieee, -EReal.coe_mul]
    try norm_num
  refine ⟨Real.sqrt (∑ c, f c * f c) + q, ?_, add_pos_of_nonneg_of_pos (Real.sqrt_nonneg _) pq⟩
  rw [nrm, e, hq, EReal.coe_add]
  congr 1
  exact if_neg nonneg

/-- A finite image has finite normalised channel vectors. -/
theorem unit_finite (x : Img) (hx : ∀ b c n, Finite' (x b c n)) (b : Fin 4) (c : Fin 96) (n : Fin 50176) : Finite' (unit x b c n) := by
  obtain ⟨r, hr, pr⟩ := nrm_finite x hx b n
  obtain ⟨a, ha⟩ := hx b c n
  refine ⟨a * r⁻¹, ?_⟩
  rw [unit, hr, ha, Ideal.div, if_neg (by simpa using pr.ne'), ← EReal.coe_inv, EReal.coe_mul]

/-- No similarity of a finite image is minus infinity. -/
theorem sim_ne_bot (x : Img) (hx : ∀ b c n, Finite' (x b c n)) (b : Fin 4) (n : Fin 50176) (s : Fin 64) : sim x b n s ≠ ⊥ := by
  rw [sim]
  by_cases h : (flat s).val = n.val
  · rw [if_pos h]
    simp [Ideal.ofBits, Ideal.ieee, -EReal.coe_mul]
    try exact EReal.coe_ne_bot _
  · rw [if_neg h]
    obtain ⟨r, hr⟩ := finite_sum Finset.univ _ fun ch => finite_mul (unit_finite x hx b ch (flat s)) (unit_finite x hx b ch n)
    rw [hr]
    exact EReal.coe_ne_bot r

/-- A finite value taken from itself leaves zero. -/
theorem sub_self_finite {a : EReal} : Finite' a → a - a = 0
  | ⟨r, h⟩ => by rw [h, ← EReal.coe_sub, sub_self, EReal.coe_zero]

/-- The precondition, read at an index of the image. -/
theorem image_finite [Cert.Pre_finite_inputs.Facts] (X : FVec Ideal ⟨4, ![4, 96, 224, 224]⟩ .f32) (W : FVec Ideal ⟨3, ![96, 96, 3]⟩ .f32)
    (Z : FVec Ideal ⟨1, ![96]⟩ .f32) (h : (Cert.Pre_finite_inputs.fn (F := Ideal) X W Z).1 = fun _ => 1#1)
    (b : Fin 4) (c : Fin 96) (n : Fin 50176) : Finite' (img X b c n) :=
  finite_of_below _ (congrFun h _)

/-- The precondition, read at an index of the taps. -/
theorem taps_finite [Cert.Pre_finite_inputs.Facts] (X : FVec Ideal ⟨4, ![4, 96, 224, 224]⟩ .f32) (W : FVec Ideal ⟨3, ![96, 96, 3]⟩ .f32)
    (Z : FVec Ideal ⟨1, ![96]⟩ .f32) (h : (Cert.Pre_finite_inputs.fn (F := Ideal) X W Z).2 = fun _ => 1#1)
    (o c : Fin 96) (k : Fin 3) : Finite' (W (ix3 o c k)) :=
  finite_of_below _ (congrFun h _)

end Cert.Spec
-- ==== Proof.Value.lean ====
module

public import proofs.«01_k».proof.Proof.Run
public import proofs.«01_k».proof.Proof.TablesArr
public import proofs.«01_k».proof.Proof.Main
public import proofs.«01_k».proof.Proof.Finite

@[expose] public section

/-!
# The kernel's value

The first kernel's arrays feed the second one's, whose array is the layer's result.
-/

set_option maxRecDepth 16384

noncomputable section
open Idealize.ShloMosaic Idealize.ShloMosaic.TcCoe Idealize.SL.Sem

namespace Cert.KernelIdeal.Result
open Cert.KernelIdeal Cert.KernelIdeal.Gen Cert.Spec

variable (m : (ℓ : Loc nD τ sig) → Buf (Elt Ideal) ℓ) (ρ : Dev nD → PrngReg) (c : Dev nD)

/-- The flattened image at an index. -/
theorem flat_image (X : FVec Ideal S4x96x224x224 .f32) (b : Fin 4) (ch : Fin 96) (n : Fin 50176) :
    shapeCast S4x96x50176 X shapeCasts_S4x96x224x224_S4x96x50176 (ix3 b ch n) = img X b ch n := by
  pointwise
  try rfl

/-- The transposed taps at an index. -/
theorem taps_at (W : FVec Ideal S96x96x3 .f32) (k : Fin 3) (o ch : Fin 96) :
    transpose S3x96x96 [2, 0, 1] W transposes_S96x96x3_S3x96x96_2_0_1 (ix3 k o ch) = W (ix3 o ch k) := by
  pointwise

/-- The bias column at an index. -/
theorem bias_at (Z : FVec Ideal S96 .f32) (o : Fin 96) :
    shapeCast S96x1 Z shapeCasts_S96_S96x1 (ix2 o (0 : Fin 1)) = Z (ix1 o) := by
  pointwise
  try rfl

/-- The convolved samples at an index. -/
theorem high_at (X : FVec Ideal S4x96x224x224 .f32) (W : FVec Ideal S96x96x3 .f32) (b : Fin 4) (o : Fin 96) (k : Fin 3) (s : Fin 64)
    (h : k.val * 64 + s.val < 192) :
    Tables.highOf X (transpose S3x96x96 [2, 0, 1] W transposes_S96x96x3_S3x96x96_2_0_1) (ix3 b o ⟨k.val * 64 + s.val, h⟩)
      = ∑ ch, W (ix3 o ch k) * img X b ch (flat s) := by
  refine Finset.sum_congr rfl fun ch _ => ?_
  have hk : (⟨(k.val * 64 + s.val) / 64, by omega⟩ : Fin 3) = k := Fin.ext (by simp only []; omega)
  have hs : (⟨(k.val * 64 + s.val) % 64, by omega⟩ : Fin 64) = s := Fin.ext (by simp only []; omega)
  refine congrArg₂ (· * ·) ((taps_at W _ o ch).trans ?_) ?_
  · exact congrArg (fun k => W (ix3 o ch k)) hk
  · exact congrArg (fun s => img X b ch (flat s)) hs

/-- The result array at the end of the run. -/
theorem value (X : FVec Ideal S4x96x224x224 .f32) (hX : m ((c : Thread nD τ).loc main_arg0) = X) (W : FVec Ideal S96x96x3 .f32)
    (hW : m ((c : Thread nD τ).loc main_arg1) = W) (Z : FVec Ideal S96 .f32) (hZ : m ((c : Thread nD τ).loc main_arg2) = Z)
    (fX : ∀ b ch n, Finite' (img X b ch n)) (fW : ∀ o ch k, Finite' (W (ix3 o ch k))) :
    W4 m ρ c (Proc.devRef .tc main_v0)
      = shapeCast S4x96x224x224 (Main.outOf (img X) (fun o ch k => W (ix3 o ch k)) (fun o => Z (ix1 o)))
          shapeCasts_S4x96x50176_S4x96x224x224 := by
  have hA := (V1_arg0 m ρ c).trans hX
  have hT := (V1_taps m ρ c).trans (congrArg (fun W => transpose S3x96x96 [2, 0, 1] W transposes_S96x96x3_S3x96x96_2_0_1) hW)
  refine (W4_result m ρ c).trans (congrArg (fun y => shapeCast S4x96x224x224 y shapeCasts_S4x96x50176_S4x96x224x224) ?_)
  exact Main.main_arr (V2 m ρ) c
    _ ((V2_image m ρ c).trans (congrArg (fun X => shapeCast S4x96x50176 X shapeCasts_S4x96x224x224_S4x96x50176) hX))
    _ ((V2_units m ρ c).trans (Tables.units_arr (V1 m ρ) c X hA))
    _ ((V2_high m ρ c).trans (Tables.high_arr (V1 m ρ) c X hA _ hT))
    _ ((V2_low m ρ c).trans (Tables.low_arr (V1 m ρ) c X hA _ hT))
    _ ((V2_bias m ρ c).trans (congrArg (fun Z => shapeCast S96x1 Z shapeCasts_S96_S96x1) hZ))
    (img X) (fun o ch k => W (ix3 o ch k)) (fun o => Z (ix1 o))
    (flat_image X) (fun _ _ _ => rfl) (fun b o k s => high_at X W b o k s _)
    (fun b o r => sub_self_finite (finite_sum _ _ fun ch => finite_mul
      ((fW _ _ _).imp fun q hq => (taps_at W _ _ _).trans hq) (fX _ _ _)))
    (bias_at Z) (fun b n s => sim_ne_bot _ fX b n s)

end Cert.KernelIdeal.Result
-- ==== Proof.Moves.lean ====
module

public import Idealize.ShloMosaic.Lib.Pointwise
public import Idealize.ShloMosaic.Lib.Routing.OpsPair
public import Idealize.ShloMosaic.Lib.Routing.OpsSet
public import proofs.«01_k».proof.Proof.Gen.ReferenceIdeal.Run
public import proofs.«01_k».proof.Proof.Spec

@[expose] public section

/-!
# The reference's gathers and its scatter

Each one read at an index, from the index words it is given.
-/

set_option maxRecDepth 16384

noncomputable section
open Idealize.ShloMosaic Idealize.ShloMosaic.TcCoe Idealize.SL.Sem

namespace Cert.ReferenceIdeal.Result
open Cert.ReferenceIdeal Cert.ReferenceIdeal.Gen Cert.Spec

/-- A small number read back from its word. -/
theorem word_val (n : ℕ) (h : n < 2 ^ 31) : (BitVec.ofNat 32 n).toInt = (n : ℤ) := StableHlo.Predicate.toInt_ofNat_small _ h

/-- The samples taken out of the image by their rows and columns. -/
theorem take_samples {α : Type} (x : S4x96x224x224.Idx → α) (idx : IVec S8x8x2 32) (b : Fin 4) (c : Fin 96) (p q : Fin 8) (r t : Fin 224)
    (hr : idx (ix3 p q (0 : Fin 2)) = BitVec.ofNat 32 r.val) (ht : idx (ix3 p q (1 : Fin 2)) = BitVec.ofNat 32 t.val) :
    Host.gather gather_S4x96x224x224_S8x8x2_S4x96x8x8_01_23_n_n_23_2_49611 x idx (ix4 b c p q) = x (ix4 b c r t) := by
  have s0 : (gather_S4x96x224x224_S8x8x2_S4x96x8x8_01_23_n_n_23_2_49611).siIdx (ix4 b c p q) ⟨0, by decide⟩ = ix3 p q (0 : Fin 2) := by
    funext a; fin_cases a <;> rfl
  have s1 : (gather_S4x96x224x224_S8x8x2_S4x96x8x8_01_23_n_n_23_2_49611).siIdx (ix4 b c p q) ⟨1, by decide⟩ = ix3 p q (1 : Fin 2) := by
    funext a; fin_cases a <;> rfl
  refine congrArg x (funext fun a => Fin.ext ?_)
  fin_cases a
  · show 0 + 0 + b.val = b.val; omega
  · show 0 + 0 + c.val = c.val; omega
  · show min (idx ((gather_S4x96x224x224_S8x8x2_S4x96x8x8_01_23_n_n_23_2_49611).siIdx (ix4 b c p q) ⟨0, by decide⟩)).toInt.toNat 223 + 0 + 0 = r.val
    rw [s0, hr, word_val _ (by omega)]; omega
  · show min (idx ((gather_S4x96x224x224_S8x8x2_S4x96x8x8_01_23_n_n_23_2_49611).siIdx (ix4 b c p q) ⟨1, by decide⟩)).toInt.toNat 223 + 0 + 0 = t.val
    rw [s1, ht, word_val _ (by omega)]; omega

/-- A sample taken by its number, for each image, pixel and rank. -/
theorem take_ranked {α : Type} (x : S4x96x64.Idx → α) (idx : IVec S4x50176x3x1 32) (b : Fin 4) (c : Fin 96) (n : Fin 50176) (k : Fin 3) (s : Fin 64)
    (hs : idx (ix4 b n k (0 : Fin 1)) = BitVec.ofNat 32 s.val) :
    Host.gather gather_S4x96x64_S4x50176x3x1_S4x96x50176x3_1_2_0_0_2_3_1961 x idx (ix4 b c n k) = x (ix3 b c s) := by
  have s0 : (gather_S4x96x64_S4x50176x3x1_S4x96x50176x3_1_2_0_0_2_3_1961).siIdx (ix4 b c n k) ⟨0, by decide⟩ = ix4 b n k (0 : Fin 1) := by
    funext a; fin_cases a <;> rfl
  refine congrArg x (funext fun a => Fin.ext ?_)
  fin_cases a
  · show 0 + b.val + 0 = b.val; omega
  · show 0 + 0 + c.val = c.val; omega
  · show min (idx ((gather_S4x96x64_S4x50176x3x1_S4x96x50176x3_1_2_0_0_2_3_1961).siIdx (ix4 b c n k) ⟨0, by decide⟩)).toInt.toNat 63 + 0 + 0 = s.val
    rw [s0, hs, word_val _ (by omega)]; omega

/-- Where an update of the scatter lands. -/
theorem lands (idx : IVec S64x2 32) (h0 : ∀ s : Fin 64, idx (ix2 s (0 : Fin 2)) = BitVec.ofNat 32 (flat s).val)
    (h1 : ∀ s : Fin 64, idx (ix2 s (1 : Fin 2)) = BitVec.ofNat 32 s.val) (b' : Fin 4) (s' : Fin 64) (b : Fin 4) (n : Fin 50176) (s : Fin 64) :
    (scatter_S4x50176x64_S64x2_S4x64_0_12_12_1).resultIdx? (ix2 b' s') idx = some (ix3 b n s)
      ↔ b'.val = b.val ∧ (flat s').val = n.val ∧ s'.val = s.val := by
  have s0 : (scatter_S4x50176x64_S64x2_S4x64_0_12_12_1).siIdx (ix2 b' s') ⟨0, by decide⟩ = ix2 s' (0 : Fin 2) := by
    funext a; fin_cases a <;> rfl
  have s1 : (scatter_S4x50176x64_S64x2_S4x64_0_12_12_1).siIdx (ix2 b' s') ⟨1, by decide⟩ = ix2 s' (1 : Fin 2) := by
    funext a; fin_cases a <;> rfl
  have e0 : (scatter_S4x50176x64_S64x2_S4x64_0_12_12_1).start (ix2 b' s') idx 0 + ((scatter_S4x50176x64_S64x2_S4x64_0_12_12_1).window (ix2 b' s') 0 : ℤ) = (b'.val : ℤ) := by
    show (0 : ℤ) + (b'.val : ℤ) = _; omega
  have e1 : (scatter_S4x50176x64_S64x2_S4x64_0_12_12_1).start (ix2 b' s') idx 1 + ((scatter_S4x50176x64_S64x2_S4x64_0_12_12_1).window (ix2 b' s') 1 : ℤ) = ((flat s').val : ℤ) := by
    show (idx ((scatter_S4x50176x64_S64x2_S4x64_0_12_12_1).siIdx (ix2 b' s') ⟨0, by decide⟩)).toInt + (0 : ℤ) = _
    rw [s0, h0, word_val _ (by omega)]; omega
  have e2 : (scatter_S4x50176x64_S64x2_S4x64_0_12_12_1).start (ix2 b' s') idx 2 + ((scatter_S4x50176x64_S64x2_S4x64_0_12_12_1).window (ix2 b' s') 2 : ℤ) = (s'.val : ℤ) := by
    show (idx ((scatter_S4x50176x64_S64x2_S4x64_0_12_12_1).siIdx (ix2 b' s') ⟨1, by decide⟩)).toInt + (0 : ℤ) = _
    rw [s1, h1, word_val _ (by omega)]; omega
  rw [Routing.resultIdx?_eq_some]
  constructor
  · intro h
    have a0 := e0.symm.trans (h 0)
    have a1 := e1.symm.trans (h 1)
    have a2 := e2.symm.trans (h 2)
    exact ⟨Int.ofNat.inj a0, Int.ofNat.inj a1, Int.ofNat.inj a2⟩
  · rintro ⟨a0, a1, a2⟩ a
    fin_cases a
    · exact e0.trans (congrArg Int.ofNat a0)
    · exact e1.trans (congrArg Int.ofNat a1)
    · exact e2.trans (congrArg Int.ofNat a2)

/-- The scatter writes its constant where a pixel is a sample, and keeps the operand elsewhere. -/
theorem set_samples {α : Type} (x : S4x50176x64.Idx → α) (idx : IVec S64x2 32) (v : α)
    (h0 : ∀ s : Fin 64, idx (ix2 s (0 : Fin 2)) = BitVec.ofNat 32 (flat s).val)
    (h1 : ∀ s : Fin 64, idx (ix2 s (1 : Fin 2)) = BitVec.ofNat 32 s.val) (b : Fin 4) (n : Fin 50176) (s : Fin 64) :
    Host.scatter scatter_S4x50176x64_S64x2_S4x64_0_12_12_1 (fun _ b => b) x idx (fun _ => v) (ix3 b n s)
      = if (flat s).val = n.val then v else x (ix3 b n s) := by
  split_ifs with h
  · exact Routing.scatter_set_hit _ _ _ _ _ v (fun _ _ => rfl) (ix2 b s) ((lands idx h0 h1 b s b n s).2 ⟨rfl, h, rfl⟩)
  · refine Routing.scatter_set_miss _ _ _ _ _ fun k hk => h ?_
    have e : k = ix2 (k 0) (k 1) := by idx_vars k; rfl
    rw [e] at hk
    obtain ⟨_, a1, a2⟩ := (lands idx h0 h1 _ _ b n s).1 hk
    rw [← a1]
    exact congrArg (fun s => (flat s).val) (Fin.ext a2.symm)

end Cert.ReferenceIdeal.Result
-- ==== Proof.Ref.lean ====
module

public import Idealize.ShloMosaic.Lib.Pointwise
public import Idealize.ShloMosaic.Lib.Routing.OpsPair
public import proofs.«01_k».proof.Proof.Gen.ReferenceIdeal.Run
public import Idealize.ShloMosaic.Lib.ReduceAll
public import proofs.«01_k».proof.Proof.Moves

@[expose] public section

/-!
# The reference's value

Each array the reference builds, at an index: the sampled positions, the sampled channel vectors, the similarities, the
ranks, and at last the convolved image.
-/

set_option maxRecDepth 16384

noncomputable section
open Idealize.ShloMosaic Idealize.ShloMosaic.TcCoe Idealize.SL.Sem

namespace Cert.ReferenceIdeal.Result
open Cert.ReferenceIdeal Cert.ReferenceIdeal.Gen Cert.ReferenceIdeal.Value Cert.Spec
variable (V0 : Valuation τ sig (Elt Ideal))

/-- The evenly spaced rows, rounded to the nearest. -/
theorem spaced (p : Fin 8) : FloatOps.fptosi (F := Ideal) (φ := .f32) 32
      (Ideal.liftRound Ideal.roundHalfEven
        (if h : p.val < 7 then
          id (constant (F := Ideal) S_ FTy.f32 0#32) ix0 *
              (1 - Ideal.div (FloatOps.sitofp (F := Ideal) FTy.f32 (BitVec.ofNat 32 p.val)) (Ideal.ofBits FTy.f32 1088421888#32)) +
            id (constant (F := Ideal) S_ FTy.f32 1130299392#32) ix0 *
              Ideal.div (FloatOps.sitofp (F := Ideal) FTy.f32 (BitVec.ofNat 32 p.val)) (Ideal.ofBits FTy.f32 1088421888#32)
        else id (constant (F := Ideal) S_ FTy.f32 1130299392#32) ix0)) = BitVec.ofNat 32 (pos p).val := by
  have e1 : Ideal.ofBits .f32 1088421888#32 = ((7 : ℝ) : EReal) := by simp [Ideal.ofBits, Ideal.ieee, -EReal.coe_mul]; norm_num
  have e2 : id (constant (F := Ideal) S_ FTy.f32 1130299392#32) ix0 = ((223 : ℝ) : EReal) := by
    show Ideal.ofBits .f32 1130299392#32 = _
    simp [Ideal.ofBits, Ideal.ieee, -EReal.coe_mul]; norm_num
  have e3 : id (constant (F := Ideal) S_ FTy.f32 0#32) ix0 = ((0 : ℝ) : EReal) := by
    show Ideal.ofBits .f32 0#32 = _
    simp [Ideal.ofBits, Ideal.ieee]
  have e4 : FloatOps.sitofp (F := Ideal) .f32 (BitVec.ofNat 32 p.val) = ((p.val : ℝ) : EReal) := by
    fin_cases p <;> simp [FloatOps.sitofp]
  have e5 : Ideal.roundHalfEven (223 * ((p.val : ℝ) / 7)) = ((pos p).val : ℤ) := by
    have near : ∀ (r : ℝ) (f z : ℤ), Int.floor r = f → (r - f < 1 / 2 ∧ z = f ∨ 1 / 2 < r - f ∧ z = f + 1) → Ideal.roundHalfEven r = z := by
      intro r f z hf h
      simp only [Ideal.roundHalfEven, hf]
      rcases h with ⟨h, rfl⟩ | ⟨h, rfl⟩
      · rw [if_pos h]
      · rw [if_neg (by linarith), if_pos h]
    have hfl : Int.floor (223 * ((p.val : ℝ) / 7)) = ((![0, 31, 63, 95, 127, 159, 191, 223] : Fin 8 → ℤ) p) := by
      rw [Int.floor_eq_iff]
      fin_cases p <;> norm_num
    refine near _ _ _ hfl ?_
    fin_cases p <;> norm_num [pos]
  have e6 : (if h : p.val < 7 then ((0 : ℝ) : EReal) * (1 - Ideal.div ((p.val : ℝ) : EReal) ((7 : ℝ) : EReal)) + ((223 : ℝ) : EReal) * Ideal.div ((p.val : ℝ) : EReal) ((7 : ℝ) : EReal)
      else ((223 : ℝ) : EReal)) = ((223 * ((p.val : ℝ) / 7) : ℝ) : EReal) := by
    have e : Ideal.div ((p.val : ℝ) : EReal) ((7 : ℝ) : EReal) = ((p.val / 7 : ℝ) : EReal) := by
      rw [Ideal.div, if_neg (by norm_num), ← EReal.coe_inv, ← EReal.coe_mul, div_eq_mul_inv]
    rw [e]
    split_ifs with h
    · rw [EReal.coe_zero, zero_mul, zero_add, EReal.coe_mul]
    · have : p.val = 7 := by omega
      rw [this]; norm_num
  rw [e1, e2, e3, e4, e6]
  show Ideal.fptosi 32 (Ideal.liftRound Ideal.roundHalfEven ((223 * ((p.val : ℝ) / 7) : ℝ) : EReal)) = _
  rw [show Ideal.liftRound Ideal.roundHalfEven ((223 * ((p.val : ℝ) / 7) : ℝ) : EReal)
    = (((Ideal.roundHalfEven (223 * ((p.val : ℝ) / 7)) : ℤ) : ℝ) : EReal) from rfl, e5]
  have e7 : ∀ z : ℕ, z < 224 → Ideal.fptosi 32 ((((z : ℕ) : ℤ) : ℝ) : EReal) = BitVec.ofNat 32 z := by
    intro z hz
    show BitVec.ofInt 32 (max _ (min _ (if (0 : ℝ) ≤ (((z : ℕ) : ℤ) : ℝ) then ⌊(((z : ℕ) : ℤ) : ℝ)⌋ else ⌈(((z : ℕ) : ℤ) : ℝ)⌉))) = _
    rw [if_pos (by simp), Int.floor_intCast, min_eq_right (by norm_num; omega), max_eq_right (by norm_num)]
    simp
  exact e7 _ (pos p).isLt

/-- The sampled rows, in words. -/
theorem v6_at (p q : Fin 8) : res_main_v6 V0 (ix2 p q) = BitVec.ofNat 32 (pos p).val := by
  pointwise [res_main_v6, res_main_call0_v6, res_main_call0_v0, res_main_call0_v1]
  exact spaced p

/-- The sampled columns, in words. -/
theorem v7_at (p q : Fin 8) : res_main_v7 V0 (ix2 p q) = BitVec.ofNat 32 (pos q).val := by
  pointwise [res_main_v7, res_main_call2_v6, res_main_call2_v0, res_main_call2_v1]
  exact spaced q

/-- The image with its spatial axes flattened. -/
theorem v28_at (X : FVec Ideal S4x96x224x224 .f32) (hX : V0 (Proc.devRef .tc main_arg0) = X) (b : Fin 4) (c : Fin 96) (n : Fin 50176) : res_main_v28 V0 (ix3 b c n) = img X b c n := by
  pointwise [res_main_v28]
  rw [hX]
  rfl

/-- The samples' flat positions, in words. -/
theorem v12_at (s : Fin 64) : res_main_v12 V0 (ix1 s) = BitVec.ofNat 32 (flat s).val := by
  pointwise [res_main_v12]
  rw [v6_at, v7_at]
  show BitVec.ofNat 32 _ * BitVec.ofNat 32 224 + BitVec.ofNat 32 _ = BitVec.ofNat 32 _
  rw [← BitVec.ofNat_mul, ← BitVec.ofNat_add]
  rfl

/-- jnp's wrap leaves a small index word as it is. -/
theorem wrapped (a : BitVec 32) (n : ℕ) (h : n < 2 ^ 31) :
    Scalar.select (IntOp.cmpi .slt (BitVec.ofNat 32 n) 0#32) a (BitVec.ofNat 32 n) = BitVec.ofNat 32 n :=
  Routing.wrap_of_lt _ _ (by rw [BitVec.toNat_ofNat]; omega)

/-- The sampled channel vectors. -/
theorem v27_at (X : FVec Ideal S4x96x224x224 .f32) (hX : V0 (Proc.devRef .tc main_arg0) = X) (b : Fin 4) (c : Fin 96) (s : Fin 64) : res_main_v27 V0 (ix3 b c s) = img X b c (flat s) := by
  pointwise [res_main_v27]
  rw [hX]
  rw [take_samples X _ b c _ _ (pos ⟨s.val / 8, by omega⟩) (pos ⟨s.val % 8, by omega⟩)]
  · have h1 : (⟨(flat s).val / 224, by omega⟩ : Fin 224) = pos ⟨s.val / 8, by omega⟩ := Fin.ext (by simp only [flat]; omega)
    have h2 : (⟨(flat s).val % 224, by omega⟩ : Fin 224) = pos ⟨s.val % 8, by omega⟩ := Fin.ext (by simp only [flat]; omega)
    rw [img, h1, h2]
  · pointwise
    rw [v6_at, wrapped _ _ (by omega)]
  · pointwise
    rw [v7_at, wrapped _ _ (by omega)]

/-- The similarities, samples' own set apart. -/
theorem v55_at (X : FVec Ideal S4x96x224x224 .f32) (hX : V0 (Proc.devRef .tc main_arg0) = X) (b : Fin 4) (n : Fin 50176) (s : Fin 64) : (res_main_v55 V0 : FVec Ideal S4x50176x64 .f32) (ix3 b n s) = sim (img X) b n s := by
  rw [res_main_v55]
  refine (set_samples _ _ (Ideal.ofBits .f32 1343554297#32) ?_ ?_ b n s).trans ?_
  · intro s
    pointwise
    rw [v12_at, wrapped _ _ (by omega)]
  · intro s
    pointwise [res_main_v40]
    rw [wrapped _ _ (by omega)]
  rw [sim]
  refine if_congr Iff.rfl rfl ?_
  pointwise
  simp only [v28_at V0 X hX, v27_at V0 X hX]
  exact Finset.sum_congr rfl fun ch _ => mul_comm _ _

/-- Top-k's positions: the first of the stable descending order. -/
theorem ranked (x : FVec Ideal S4x50176x64 .f32) (h) (b : Fin 4) (n : Fin 50176) (k : Fin 3) :
    (Host.topK S4x50176x3 2 (FloatOps.cmpfTotal (F := Ideal) (φ := .f32) .gt) x h).2 (ix3 b n k)
      = BitVec.ofNat 32 (sortedFrom (Rounds.descends fun s => x (ix3 b n s)) (k.castLE (by decide))).val := by
  have along : ∀ (s : Fin 64) (s' : Fin (S4x50176x64.size 2)), (ix3 b n s : S4x50176x64.Idx).along 2 s' = ix3 b n s' := by
    intro s s'
    funext a
    fin_cases a <;> rfl
  have cut : ∀ G : IVec S4x50176x64 32, extractStridedSlice S4x50176x3 (fun _ => 0) G h (ix3 b n k)
      = G (ix3 b n (k.castLE (by decide) : Fin 64)) := by
    intro G
    pointwise
    rfl
  show extractStridedSlice S4x50176x3 (fun _ => 0) (Host.sort2 S4x50176x64 2
    (fun l r => FloatOps.cmpfTotal (F := Ideal) (φ := .f32) .gt l.1 r.1) x
    (fun i => if hd : 2 < S4x50176x64.rank then iotaInDim S4x50176x64 32 ⟨2, hd⟩ i else 0#32)).2 h (ix3 b n k) = _
  rw [cut]
  show BitVec.ofNat 32 (((ix3 b n (k.castLE (by decide) : Fin 64) : S4x50176x64.Idx).along 2 (sortedFrom (fun p q : Fin (S4x50176x64.size 2) =>
    FloatOps.cmpfTotal (F := Ideal) (φ := .f32) .gt (x ((ix3 b n (k.castLE (by decide) : Fin 64) : S4x50176x64.Idx).along 2 p))
      (x ((ix3 b n (k.castLE (by decide) : Fin 64) : S4x50176x64.Idx).along 2 q)) == 1#1) (k.castLE (by decide)))) 2).val = _
  simp only [along]
  have g : ∀ a a' : EReal, (FloatOps.cmpfTotal (F := Ideal) (φ := .f32) .gt a a' == 1#1) = decide (a' < a) := by
    intro a a'
    show (BitVec.ofBool (decide (a' < a)) == 1#1) = _
    by_cases h : a' < a <;> simp [h]
  simp only [g]
  rfl

/-- The ranks the reference takes. -/
theorem v57_at (X : FVec Ideal S4x96x224x224 .f32) (hX : V0 (Proc.devRef .tc main_arg0) = X) (b : Fin 4) (n : Fin 50176) (k : Fin 3) : res_main_v57 V0 (ix4 b (0 : Fin 1) n k) = BitVec.ofNat 32 (top (img X) b n k).val := by
  pointwise [res_main_v57]
  refine (ranked _ _ b n k).trans ?_
  rw [show (fun s => (res_main_v55 V0 : FVec Ideal S4x50176x64 .f32) (ix3 b n s)) = sim (img X) b n from funext fun s => v55_at V0 X hX b n s]
  rfl

/-- The wrapped ranks. -/
theorem call6_at (X : FVec Ideal S4x96x224x224 .f32) (hX : V0 (Proc.devRef .tc main_arg0) = X) (b : Fin 4) (n : Fin 50176) (k : Fin 3) :
    res_main_call6_v5 V0 (ix4 b n k (0 : Fin 1)) = BitVec.ofNat 32 (top (img X) b n k).val := by
  pointwise [res_main_call6_v5]
  rw [v57_at V0 X hX, wrapped _ _ (by omega)]

/-- A property of every rank's index, its last axis being one long. -/
theorem everyRank (p : S4x50176x3x1.Idx → Prop) (h : ∀ b n k, p (ix4 b n k (0 : Fin 1))) (i : S4x50176x3x1.Idx) : p i := by
  idx_vars i
  rw [Fin.fin_one_eq_zero i3]
  exact h _ _ _

/-- Every rank is in bounds, so the take never fills. -/
theorem inBounds (X : FVec Ideal S4x96x224x224 .f32) (hX : V0 (Proc.devRef .tc main_arg0) = X) :
    Host.reduce IntOp.andi (andi (cmpi .sge (res_main_call6_v5 V0) (broadcastInDim S4x50176x3x1 ![] bcast_S_S4x50176x3x1 (constantI S_ 32 0#32)))
      (cmpi .sle (res_main_call6_v5 V0) (broadcastInDim S4x50176x3x1 ![0, 1, 2, 3] bcast_S1x1x1x1_S4x50176x3x1_0_1_2_3
        (broadcastInDim S1x1x1x1 ![3] bcast_S1_S1x1x1x1_3 (constantI S1 32 63#32))))) (constantI S_ 1 1#1)
      reducesTo_S4x50176x3x1_S4x50176x3_d3 h_S_ = fun _ => 1#1 := by
  funext j
  have small : ∀ s : Fin 64, IntOp.andi (IntOp.cmpi .sge (BitVec.ofNat 32 s.val) 0#32) (IntOp.cmpi .sle (BitVec.ofNat 32 s.val) 63#32) = 1#1 := by
    decide
  refine Host.reduce_andi_one _ _ _ _ _ rfl (everyRank _ fun b n k => ?_)
  beta_reduce
  pointwise
  rw [call6_at V0 X hX]
  exact small _

/-- The reference's result is the specification's. -/
theorem result (X : FVec Ideal S4x96x224x224 .f32) (hX : V0 (Proc.devRef .tc main_arg0) = X) (W : FVec Ideal S96x96x3 .f32)
    (hW : V0 (Proc.devRef .tc main_arg1) = W) (Z : FVec Ideal S96 .f32) (hZ : V0 (Proc.devRef .tc main_arg2) = Z) :
    (addf (transpose S4x96x50176 [1, 0, 2] (Host.dotGeneral (φ₁ := .f32) (φ₂ := .f32) dot_S96x96x3_S4x96x50176x3_S96x4x50176_12_13_0_02_n_n none (V0 (Proc.devRef .tc main_arg1)) (select (broadcastInDim S4x96x50176x3 ![0, 2, 3] bcast_S4x50176x3_S4x96x50176x3_0_2_3 (Host.reduce IntOp.andi (andi (cmpi .sge (res_main_call6_v5 V0) (broadcastInDim S4x50176x3x1 ![] bcast_S_S4x50176x3x1 (constantI S_ 32 0#32))) (cmpi .sle (res_main_call6_v5 V0) (broadcastInDim S4x50176x3x1 ![0, 1, 2, 3] bcast_S1x1x1x1_S4x50176x3x1_0_1_2_3 (broadcastInDim S1x1x1x1 ![3] bcast_S1_S1x1x1x1_3 (constantI S1 32 63#32))))) (constantI S_ 1 1#1) reducesTo_S4x50176x3x1_S4x50176x3_d3 h_S_)) (Host.gather gather_S4x96x64_S4x50176x3x1_S4x96x50176x3_1_2_0_0_2_3_1961 (shapeCast _ (broadcastInDim S4x96x1x64 ![0, 1, 3] bcast_S4x96x64_S4x96x1x64_0_1_3 (res_main_v27 V0)) shapeCasts_S4x96x1x64_S4x96x64) (res_main_call6_v5 V0)) (broadcastInDim S4x96x50176x3 ![] bcast_S_S4x96x50176x3 (constant S_ .f32 0x7FC00000#32)))) transposes_S96x4x50176_S4x96x50176_1_0_2) (broadcastInDim S4x96x50176 ![0, 1, 2] bcast_S1x96x1_S4x96x50176_0_1_2 (broadcastInDim S1x96x1 ![1] bcast_S96_S1x96x1_1 (V0 (Proc.devRef .tc main_arg2)))) : FVec Ideal S4x96x50176 .f32)
      = fun i => out (img X) (fun o c k => W (ix3 o c k)) (fun o => Z (ix1 o)) (i 0) (i 1) (i 2) := by
  funext i
  rw [inBounds V0 X hX]
  idx_vars i
  show _ = out (img X) (fun o c k => W (ix3 o c k)) (fun o => Z (ix1 o)) i0 i1 i2
  pointwise
  rw [out, hW, hZ]
  refine congrArg (· + Z (ix1 i1)) (Finset.sum_congr rfl fun ch _ => Finset.sum_congr rfl fun k _ => ?_)
  rw [take_ranked _ _ i0 ch i2 k (top (img X) i0 i2 k) (call6_at V0 X hX i0 i2 k)]
  pointwise
  rw [v27_at V0 X hX]

end Cert.ReferenceIdeal.Result
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Ref
public import Idealize.ShloMosaic.Adequacy
public import Idealize.ShloMosaic.Init

@[expose] public section

noncomputable section

namespace Cert.Proof

open Idealize.ShloMosaic Idealize.SL.Sem Cert.Kernel

/-- The reference terminates without fault, leaves its arguments and keeps every counter at zero. -/
theorem frame_r : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The precondition's own side conditions. -/
theorem facts_pre : Cert.Pre_finite_inputs.Facts where
  bcast_S_S4x96x224x224 := by decide
  bcast_S_S96x96x3 := by decide

/-- On finite inputs the kernel and the reference end with the same result. -/
theorem same [hP : Cert.Pre_finite_inputs.Facts] :
    Cert.algebraic_KernelIdeal_ReferenceIdeal_pre_finite_inputs (hKernelIdeal := Cert.KernelIdeal.Gen.facts)
      (hReferenceIdeal := Cert.ReferenceIdeal.Gen.facts) := by
  intro m g m' g' pre args
  refine ⟨fun c => Cert.KernelIdeal.Gen.W4 m g c (Proc.devRef .tc Cert.KernelIdeal.main_v0), Cert.KernelIdeal.Result.run m g, ?_⟩
  refine (θ_run Cert.ReferenceIdeal.defs _ _).mono (fun r h c => ⟨(h c).1.trans ?_, (h c).2⟩)
    (Cert.ReferenceIdeal.Value.run (F := Ideal) m' g')
  refine Eq.trans ?_ (Cert.KernelIdeal.Result.value m g c _ rfl _ rfl _ rfl (Cert.Spec.image_finite _ _ _ (pre c).1)
    (Cert.Spec.taps_finite _ _ _ (pre c).2)).symm
  exact congrArg (fun y => shapeCast Cert.KernelIdeal.S4x96x224x224 y Cert.KernelIdeal.Gen.shapeCasts_S4x96x50176_S4x96x224x224)
    (Cert.ReferenceIdeal.Result.result _ _ (args c).1 _ (args c).2.1 _ (args c).2.2)

/-- All the claims. -/
theorem claim : Cert.Claim := ⟨Cert.Kernel.Gen.facts, Cert.KernelIdeal.Gen.facts, Cert.ReferenceIdeal.Gen.facts, facts_pre,
  fun m ρ _ => Cert.Kernel.Gen.frame m ρ, fun m ρ _ => Cert.KernelIdeal.Gen.frame m ρ, fun m ρ _ => Cert.KernelIdeal.Gen.frame m ρ,
  frame_r, fun m ρ _ => frame_r m ρ trivial, trivial, same (hP := facts_pre)⟩

end Cert.Proof

end
